-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_v42) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "inv_768" .f32 0x3AAAAAAB#32 ((1 / 768 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_tables_in_range.lean ====
abbrev S544 : Shape := ⟨1, ![544]⟩
abbrev S2228224x128 : Shape := ⟨2, ![2228224, 128]⟩
abbrev S128x1024x2048 : Shape := ⟨3, ![128, 1024, 2048]⟩
abbrev S128x2048 : Shape := ⟨2, ![128, 2048]⟩
abbrev S128x1024x1024 : Shape := ⟨3, ![128, 1024, 1024]⟩
abbrev S128x1024 : Shape := ⟨2, ![128, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel

variable [Facts]

def fn {F : FTy → Type} [FloatOps F] (main_arg0 : IVec S544 32) (main_arg1 : IVec S544 32) (main_arg2 : IVec S544 32) (main_arg3 : FVec F S2228224x128 .f32) (main_arg4 : FVec F S128x1024x2048 .f32) (main_arg5 : FVec F S128x2048 .f32) (main_arg6 : FVec F S128x1024x1024 .f32) (main_arg7 : FVec F S128x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 128#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 32 := constantI S_ 32 0#32
  let main_v5 : IVec S544 32 := broadcastInDim S544 ![] bcast_S_S544 main_c_1
  let main_v6 : IVec S544 1 := cmpi .sge main_arg1 main_v5
  let main_v7 : IVec S544 1 := andi main_v4 main_v6
  let main_c_2 : IVec S_ 32 := constantI S_ 32 544#32
  let main_v8 : IVec S544 32 := broadcastInDim S544 ![] bcast_S_S544 main_c_2
  let main_v9 : IVec S544 1 := cmpi .slt main_arg1 main_v8
  let main_v10 : IVec S544 1 := andi main_v7 main_v9
  let main_c_3 : IVec S_ 32 := constantI S_ 32 0#32
  let main_v11 : IVec S544 32 := broadcastInDim S544 ![] bcast_S_S544 main_c_3
  let main_v12 : IVec S544 1 := cmpi .sge main_arg2 main_v11
  let main_v13 : IVec S544 1 := andi main_v10 main_v12
  let main_c_4 : IVec S_ 1 := constantI S_ 1 1#1
  let main_v14 : IVec S_ 1 := (fun x v => Host.reduce IntOp.andi x v reducesTo_S544_S_d0 h_S_) main_v13 main_c_4
  main_v14
-- ==== Kernel.lean ====
abbrev S544 : Shape := ⟨1, ![544]⟩
abbrev S2228224x128 : Shape := ⟨2, ![2228224, 128]⟩
abbrev S128x1024x2048 : Shape := ⟨3, ![128, 1024, 2048]⟩
abbrev S128x2048 : Shape := ⟨2, ![128, 2048]⟩
abbrev S128x1024x1024 : Shape := ⟨3, ![128, 1024, 1024]⟩
abbrev S128x1024 : Shape := ⟨2, ![128, 1024]⟩
abbrev S128x1x2048 : Shape := ⟨3, ![128, 1, 2048]⟩
abbrev S128x1x1024 : Shape := ⟨3, ![128, 1, 1024]⟩
abbrev S4096x128 : Shape := ⟨2, ![4096, 128]⟩
abbrev S1 : Shape := ⟨1, ![1]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S512x128 : Shape := ⟨2, ![512, 128]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 15
  | .smem => 3
  | _ => 0

abbrev bufTy : (tb : Table) → Fin (tcTables nBuf tb) → BufTy
  | .hbm, ⟨0, _⟩ => ⟨S2228224x128, .f32⟩
  | .hbm, ⟨1, _⟩ => ⟨S128x1024x2048, .f32⟩
  | .hbm, ⟨2, _⟩ => ⟨S128x2048, .f32⟩
  | .hbm, ⟨3, _⟩ => ⟨S128x1024x1024, .f32⟩
  | .hbm, ⟨4, _⟩ => ⟨S128x1024, .f32⟩
  | .hbm, ⟨5, _⟩ => ⟨S128x1x2048, .f32⟩
  | .hbm, ⟨6, _⟩ => ⟨S128x1x1024, .f32⟩
  | .hbm, ⟨7, _⟩ => ⟨S2228224x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S512x1024, .bf16⟩
  | .local _ .vmem, ⟨13, _⟩ => ⟨S1024x2048, .bf16⟩
  | .local _ .vmem, ⟨14, _⟩ => ⟨S1024x1024, .bf16⟩
  | .local _ .smem, ⟨0, _⟩ => ⟨S544, .i32⟩
  | .local _ .smem, ⟨1, _⟩ => ⟨S544, .i32⟩
  | .local _ .smem, ⟨2, _⟩ => ⟨S544, .i32⟩
  | _, _ => ⟨S2228224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (k0_off1_inb : ∀ i : grid0.Coords, ∀ a, (k0_off1 i) a + S1.size a ≤ S544.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S544) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S544 : Shape := ⟨1, ![544]⟩
abbrev S2228224x128 : Shape := ⟨2, ![2228224, 128]⟩
abbrev S128x1024x2048 : Shape := ⟨3, ![128, 1024, 2048]⟩
abbrev S128x2048 : Shape := ⟨2, ![128, 2048]⟩
abbrev S128x1024x1024 : Shape := ⟨3, ![128, 1024, 1024]⟩
abbrev S128x1024 : Shape := ⟨2, ![128, 1024]⟩
abbrev S544x512x1024 : Shape := ⟨3, ![544, 512, 1024]⟩
abbrev S_ : Shape := ⟨0, ![]⟩
abbrev S544x1 : Shape := ⟨2, ![544, 1]⟩
abbrev S278528x1024 : Shape := ⟨2, ![278528, 1024]⟩
abbrev S544x512 : Shape := ⟨2, ![544, 512]⟩
abbrev S278528 : Shape := ⟨1, ![278528]⟩
abbrev S278528x1 : Shape := ⟨2, ![278528, 1]⟩
abbrev S1x128 : Shape := ⟨2, ![1, 128]⟩
abbrev S278528x128 : Shape := ⟨2, ![278528, 128]⟩
abbrev S128x2048x278528 : Shape := ⟨3, ![128, 2048, 278528]⟩
abbrev S128x278528x2048 : Shape := ⟨3, ![128, 278528, 2048]⟩
abbrev S128x1x2048 : Shape := ⟨3, ![128, 1, 2048]⟩
abbrev S128x278528x1024 : Shape := ⟨3, ![128, 278528, 1024]⟩
abbrev S128x1x1024 : Shape := ⟨3, ![128, 1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S544, .i32⟩
  | .hbm, ⟨1, _⟩ => ⟨S544, .i32⟩
  | .hbm, ⟨2, _⟩ => ⟨S544, .i32⟩
  | .hbm, ⟨3, _⟩ => ⟨S2228224x128, .f32⟩
  | .hbm, ⟨4, _⟩ => ⟨S128x1024x2048, .f32⟩
  | .hbm, ⟨5, _⟩ => ⟨S128x2048, .f32⟩
  | .hbm, ⟨6, _⟩ => ⟨S128x1024x1024, .f32⟩
  | .hbm, ⟨7, _⟩ => ⟨S128x1024, .f32⟩
  | .hbm, ⟨8, _⟩ => ⟨S544x512x1024, .f32⟩
  | .hbm, ⟨9, _⟩ => ⟨S_, .i32⟩
  | .hbm, ⟨10, _⟩ => ⟨S544, .i32⟩
  | .hbm, ⟨11, _⟩ => ⟨S544, .i1⟩
  | .hbm, ⟨12, _⟩ => ⟨S_, .i32⟩
  | .hbm, ⟨13, _⟩ => ⟨S544, .i32⟩
  | .hbm, ⟨14, _⟩ => ⟨S544, .i32⟩
  | .hbm, ⟨15, _⟩ => ⟨S544, .i32⟩
  | .hbm, ⟨16, _⟩ => ⟨S544x1, .i32⟩
  | .hbm, ⟨17, _⟩ => ⟨S544x512x1024, .f32⟩
  | .hbm, ⟨18, _⟩ => ⟨S278528x1024, .f32⟩
  | .hbm, ⟨19, _⟩ => ⟨S544x512, .i32⟩
  | .hbm, ⟨20, _⟩ => ⟨S278528, .i32⟩
  | .hbm, ⟨21, _⟩ => ⟨S_, .i32⟩
  | .hbm, ⟨22, _⟩ => ⟨S544, .i32⟩
  | .hbm, ⟨23, _⟩ => ⟨S544, .i1⟩
  | .hbm, ⟨24, _⟩ => ⟨S544x512, .i1⟩
  | .hbm, ⟨25, _⟩ => ⟨S278528, .i1⟩
  | .hbm, ⟨26, _⟩ => ⟨S278528x1, .i1⟩
  | .hbm, ⟨27, _⟩ => ⟨S278528x1, .i32⟩
  | .hbm, ⟨28, _⟩ => ⟨S1x128, .i32⟩
  | .hbm, ⟨29, _⟩ => ⟨S278528x128, .i32⟩
  | .hbm, ⟨30, _⟩ => ⟨S278528x128, .i32⟩
  | .hbm, ⟨31, _⟩ => ⟨S278528x128, .i1⟩
  | .hbm, ⟨32, _⟩ => ⟨S278528x128, .f32⟩
  | .hbm, ⟨33, _⟩ => ⟨S_, .f32⟩
  | .hbm, ⟨34, _⟩ => ⟨S_, .f32⟩
  | .hbm, ⟨35, _⟩ => ⟨S278528x128, .i1⟩
  | .hbm, ⟨36, _⟩ => ⟨S278528x128, .f32⟩
  | .hbm, ⟨37, _⟩ => ⟨S278528x128, .f32⟩
  | .hbm, ⟨38, _⟩ => ⟨S128x2048x278528, .f32⟩
  | .hbm, ⟨39, _⟩ => ⟨S128x278528x2048, .f32⟩
  | .hbm, ⟨40, _⟩ => ⟨S128x1x2048, .f32⟩
  | .hbm, ⟨41, _⟩ => ⟨S128x278528x2048, .f32⟩
  | .hbm, ⟨42, _⟩ => ⟨S128x278528x2048, .f32⟩
  | .hbm, ⟨43, _⟩ => ⟨S128x278528x1024, .f32⟩
  | .hbm, ⟨44, _⟩ => ⟨S_, .f32⟩
  | .hbm, ⟨45, _⟩ => ⟨S128x278528x1024, .f32⟩
  | .hbm, ⟨46, _⟩ => ⟨S128x278528x1024, .f32⟩
  | .hbm, ⟨47, _⟩ => ⟨S128x278528x1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S128x278528x1024, .f32⟩
  | .hbm, ⟨52, _⟩ => ⟨S128x278528x1024, .f32⟩
  | .hbm, ⟨53, _⟩ => ⟨S_, .f32⟩
  | .hbm, ⟨54, _⟩ => ⟨S128x278528x1024, .f32⟩
  | .hbm, ⟨55, _⟩ => ⟨S128x278528x1024, .f32⟩
  | .hbm, ⟨56, _⟩ => ⟨S_, .f32⟩
  | .hbm, ⟨57, _⟩ => ⟨S128x278528x1024, .f32⟩
  | .hbm, ⟨58, _⟩ => ⟨S128x278528x1024, .f32⟩
  | .hbm, ⟨59, _⟩ => ⟨S128x278528x1024, .f32⟩
  | .hbm, ⟨60, _⟩ => ⟨S128x278528x1024, .f32⟩
  | .hbm, ⟨61, _⟩ => ⟨S_, .f32⟩
  | .hbm, ⟨62, _⟩ => ⟨S128x278528x1024, .f32⟩
  | .hbm, ⟨63, _⟩ => ⟨S128x278528x1024, .f32⟩
  | .hbm, ⟨64, _⟩ => ⟨S_, .f32⟩
  | .hbm, ⟨65, _⟩ => ⟨S128x278528x1024, .f32⟩
  | .hbm, ⟨66, _⟩ => ⟨S128x278528x1024, .f32⟩
  | .hbm, ⟨67, _⟩ => ⟨S128x278528x1024, .f32⟩
  | .hbm, ⟨68, _⟩ => ⟨S_, .f32⟩
  | .hbm, ⟨69, _⟩ => ⟨S128x278528x1024, .f32⟩
  | .hbm, ⟨70, _⟩ => ⟨S128x278528x1024, .f32⟩
  | .hbm, ⟨71, _⟩ => ⟨S128x278528x1024, .f32⟩
  | .hbm, ⟨72, _⟩ => ⟨S128x278528x1024, .f32⟩
  | .hbm, ⟨73, _⟩ => ⟨S128x1x1024, .f32⟩
  | .hbm, ⟨74, _⟩ => ⟨S128x278528x1024, .f32⟩
  | .hbm, ⟨75, _⟩ => ⟨S128x278528x1024, .f32⟩
  | .hbm, ⟨76, _⟩ => ⟨S278528x1024, .f32⟩
  | .hbm, ⟨77, _⟩ => ⟨S2228224x128, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_cst_4 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v27 : Ref sig .tc := ⟨.hbm, 55, rfl⟩
abbrev main_cst_5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_cst_7 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x6x1024 : Shape := ⟨3, ![32, 6, 1024]⟩
abbrev S1024x2816 : Shape := ⟨2, ![1024, 2816]⟩
abbrev S_ : Shape := ⟨0, ![]⟩
abbrev S768 : Shape := ⟨1, ![768]⟩
abbrev S2048 : Shape := ⟨1, ![2048]⟩
abbrev S2816 : Shape := ⟨1, ![2816]⟩
abbrev S65536x1024 : Shape := ⟨2, ![65536, 1024]⟩
abbrev S1x2816 : Shape := ⟨2, ![1, 2816]⟩
abbrev S18x32x2048x128 : Shape := ⟨4, ![18, 32, 2048, 128]⟩
abbrev S18x32x4x512x128 : Shape := ⟨5, ![18, 32, 4, 512, 128]⟩
abbrev S18x32x16x128x128 : Shape := ⟨5, ![18, 32, 16, 128, 128]⟩
abbrev S65536x512 : Shape := ⟨2, ![65536, 512]⟩
abbrev S512x1024 : Shape := ⟨2, ![512, 1024]⟩
abbrev S1x6x1024 : Shape := ⟨3, ![1, 6, 1024]⟩
abbrev S18x1x512x128 : Shape := ⟨4, ![18, 1, 512, 128]⟩
abbrev S18x1x4x128x128 : Shape := ⟨5, ![18, 1, 4, 128, 128]⟩
abbrev S18x1x16x32x128 : Shape := ⟨5, ![18, 1, 16, 32, 128]⟩
abbrev S512x512 : Shape := ⟨2, ![512, 512]⟩
abbrev S18x512x128 : Shape := ⟨3, ![18, 512, 128]⟩
abbrev S6x1024 : Shape := ⟨2, ![6, 1024]⟩
abbrev S512 : Shape := ⟨1, ![512]⟩
abbrev S512x1 : Shape := ⟨2, ![512, 1]⟩
abbrev S1x1024 : Shape := ⟨2, ![1, 1024]⟩
abbrev S1024x256 : Shape := ⟨2, ![1024, 256]⟩
abbrev S512x256 : Shape := ⟨2, ![512, 256]⟩
abbrev S512x128 : Shape := ⟨2, ![512, 128]⟩
abbrev S1x1x512x128 : Shape := ⟨4, ![1, 1, 512, 128]⟩
abbrev S1x512x128 : Shape := ⟨3, ![1, 512, 128]⟩
abbrev S1x128x128 : Shape := ⟨3, ![1, 128, 128]⟩
abbrev S128x128 : Shape := ⟨2, ![128, 128]⟩
abbrev S1x1x1x128x128 : Shape := ⟨5, ![1, 1, 1, 128, 128]⟩
abbrev S1x32x128 : Shape := ⟨3, ![1, 32, 128]⟩
abbrev S32x128 : Shape := ⟨2, ![32, 128]⟩
abbrev S1x1x1x32x128 : Shape := ⟨5, ![1, 1, 1, 32, 128]⟩

abbrev nBuf : Space → Nat
  | .hbm => 17
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S32x6x1024, .f32⟩
  | .hbm, ⟨2, _⟩ => ⟨S1024x2816, .f32⟩
  | .hbm, ⟨3, _⟩ => ⟨S_, .f32⟩
  | .hbm, ⟨4, _⟩ => ⟨S768, .f32⟩
  | .hbm, ⟨5, _⟩ => ⟨S_, .f32⟩
  | .hbm, ⟨6, _⟩ => ⟨S2048, .f32⟩
  | .hbm, ⟨7, _⟩ => ⟨S2816, .f32⟩
  | .hbm, ⟨8, _⟩ => ⟨S65536x1024, .f32⟩
  | .hbm, ⟨9, _⟩ => ⟨S1x2816, .f32⟩
  | .hbm, ⟨10, _⟩ => ⟨S1024x2816, .f32⟩
  | .hbm, ⟨11, _⟩ => ⟨S1024x2816, .f32⟩
  | .hbm, ⟨12, _⟩ => ⟨S1024x2816, .bf16⟩
  | .hbm, ⟨13, _⟩ => ⟨S18x32x2048x128, .bf16⟩
  | .hbm, ⟨14, _⟩ => ⟨S18x32x4x512x128, .bf16⟩
  | .hbm, ⟨15, _⟩ => ⟨S18x32x16x128x128, .bf16⟩
  | .hbm, ⟨16, _⟩ => ⟨S65536x512, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2816, .bf16⟩
  | .local _ .vmem, ⟨5, _⟩ => ⟨S18x1x512x128, .bf16⟩
  | .local _ .vmem, ⟨6, _⟩ => ⟨S18x1x512x128, .bf16⟩
  | .local _ .vmem, ⟨7, _⟩ => ⟨S18x1x4x128x128, .bf16⟩
  | .local _ .vmem, ⟨8, _⟩ => ⟨S18x1x4x128x128, .bf16⟩
  | .local _ .vmem, ⟨9, _⟩ => ⟨S18x1x16x32x128, .bf16⟩
  | .local _ .vmem, ⟨10, _⟩ => ⟨S18x1x16x32x128, .bf16⟩
  | .local _ .vmem, ⟨11, _⟩ => ⟨S512x512, .f32⟩
  | .local _ .vmem, ⟨12, _⟩ => ⟨S512x512, .f32⟩
  | .local _ .vmem, ⟨13, _⟩ => ⟨S18x512x128, .f32⟩
  | .local _ .vmem, ⟨14, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S18x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S18x1x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S18x1x16x32x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S32x2048x1024 : Shape := ⟨3, ![32, 2048, 1024]⟩
abbrev S32x6x1024 : Shape := ⟨3, ![32, 6, 1024]⟩
abbrev S1024x2816 : Shape := ⟨2, ![1024, 2816]⟩
abbrev S_ : Shape := ⟨0, ![]⟩
abbrev S32x2048 : Shape := ⟨2, ![32, 2048]⟩
abbrev S32x2048x1 : Shape := ⟨3, ![32, 2048, 1]⟩
abbrev S32x1x1024 : Shape := ⟨3, ![32, 1, 1024]⟩
abbrev S2816 : Shape := ⟨1, ![2816]⟩
abbrev S1x2816 : Shape := ⟨2, ![1, 2816]⟩
abbrev S32x2048x2816 : Shape := ⟨3, ![32, 2048, 2816]⟩
abbrev S32x2048x2304 : Shape := ⟨3, ![32, 2048, 2304]⟩
abbrev S32x2048x18x128 : Shape := ⟨4, ![32, 2048, 18, 128]⟩
abbrev S18x32x2048x128 : Shape := ⟨4, ![18, 32, 2048, 128]⟩
abbrev S32x512x4x18x128 : Shape := ⟨5, ![32, 512, 4, 18, 128]⟩
abbrev S18x32x4x512x128 : Shape := ⟨5, ![18, 32, 4, 512, 128]⟩
abbrev S32x128x16x18x128 : Shape := ⟨5, ![32, 128, 16, 18, 128]⟩
abbrev S18x32x16x128x128 : Shape := ⟨5, ![18, 32, 16, 128, 128]⟩
abbrev S32x2048x512 : Shape := ⟨3, ![32, 2048, 512]⟩
abbrev S65536x512 : Shape := ⟨2, ![65536, 512]⟩

abbrev nBuf : Space → Nat
  | .hbm => 57
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6x1024, .f32⟩
  | .hbm, ⟨2, _⟩ => ⟨S1024x2816, .f32⟩
  | .hbm, ⟨3, _⟩ => ⟨S_, .f32⟩
  | .hbm, ⟨4, _⟩ => ⟨S32x2048, .f32⟩
  | .hbm, ⟨5, _⟩ => ⟨S32x2048x1, .f32⟩
  | .hbm, ⟨6, _⟩ => ⟨S_, .f32⟩
  | .hbm, ⟨7, _⟩ => ⟨S32x2048x1, .f32⟩
  | .hbm, ⟨8, _⟩ => ⟨S32x2048x1, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S_, .f32⟩
  | .hbm, ⟨13, _⟩ => ⟨S32x2048, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S_, .f32⟩
  | .hbm, ⟨19, _⟩ => ⟨S32x2048x1, .f32⟩
  | .hbm, ⟨20, _⟩ => ⟨S32x2048x1, .f32⟩
  | .hbm, ⟨21, _⟩ => ⟨S32x2048x1, .f32⟩
  | .hbm, ⟨22, _⟩ => ⟨S32x2048x1024, .f32⟩
  | .hbm, ⟨23, _⟩ => ⟨S32x2048x1024, .f32⟩
  | .hbm, ⟨24, _⟩ => ⟨S32x1x1024, .f32⟩
  | .hbm, ⟨25, _⟩ => ⟨S_, .f32⟩
  | .hbm, ⟨26, _⟩ => ⟨S32x1x1024, .f32⟩
  | .hbm, ⟨27, _⟩ => ⟨S32x1x1024, .f32⟩
  | .hbm, ⟨28, _⟩ => ⟨S32x2048x1024, .f32⟩
  | .hbm, ⟨29, _⟩ => ⟨S32x2048x1024, .f32⟩
  | .hbm, ⟨30, _⟩ => ⟨S32x1x1024, .f32⟩
  | .hbm, ⟨31, _⟩ => ⟨S32x2048x1024, .f32⟩
  | .hbm, ⟨32, _⟩ => ⟨S32x2048x1024, .f32⟩
  | .hbm, ⟨33, _⟩ => ⟨S2816, .i32⟩
  | .hbm, ⟨34, _⟩ => ⟨S_, .i32⟩
  | .hbm, ⟨35, _⟩ => ⟨S2816, .i32⟩
  | .hbm, ⟨36, _⟩ => ⟨S2816, .i1⟩
  | .hbm, ⟨37, _⟩ => ⟨S_, .f32⟩
  | .hbm, ⟨38, _⟩ => ⟨S_, .f32⟩
  | .hbm, ⟨39, _⟩ => ⟨S2816, .f32⟩
  | .hbm, ⟨40, _⟩ => ⟨S2816, .f32⟩
  | .hbm, ⟨41, _⟩ => ⟨S2816, .f32⟩
  | .hbm, ⟨42, _⟩ => ⟨S2816, .f32⟩
  | .hbm, ⟨43, _⟩ => ⟨S1x2816, .f32⟩
  | .hbm, ⟨44, _⟩ => ⟨S1024x2816, .f32⟩
  | .hbm, ⟨45, _⟩ => ⟨S1024x2816, .f32⟩
  | .hbm, ⟨46, _⟩ => ⟨S32x2048x2816, .f32⟩
  | .hbm, ⟨47, _⟩ => ⟨S32x2048x2304, .f32⟩
  | .hbm, ⟨48, _⟩ => ⟨S32x2048x2304, .bf16⟩
  | .hbm, ⟨49, _⟩ => ⟨S32x2048x18x128, .bf16⟩
  | .hbm, ⟨50, _⟩ => ⟨S18x32x2048x128, .bf16⟩
  | .hbm, ⟨51, _⟩ => ⟨S32x512x4x18x128, .bf16⟩
  | .hbm, ⟨52, _⟩ => ⟨S18x32x4x512x128, .bf16⟩
  | .hbm, ⟨53, _⟩ => ⟨S32x128x16x18x128, .bf16⟩
  | .hbm, ⟨54, _⟩ => ⟨S18x32x16x128x128, .bf16⟩
  | .hbm, ⟨55, _⟩ => ⟨S32x2048x512, .f32⟩
  | .hbm, ⟨56, _⟩ => ⟨S65536x512, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_cst_6 : Ref sig .tc := ⟨.hbm, 38, rfl⟩
abbrev main_call0_v0 : Ref sig .tc := ⟨.hbm, 39, rfl⟩
abbrev main_call0_v1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel3.lean ====
abbrev S32x1024 : Shape := ⟨2, ![32, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x32x6144 : Shape := ⟨3, ![4, 32, 6144]⟩
abbrev S1x1024x1536 : Shape := ⟨3, ![1, 1024, 1536]⟩
abbrev S1x1x1536 : Shape := ⟨3, ![1, 1, 1536]⟩
abbrev S1x32x1536 : Shape := ⟨3, ![1, 32, 1536]⟩
abbrev S1024x1536 : Shape := ⟨2, ![1024, 1536]⟩
abbrev S32x1536 : Shape := ⟨2, ![32, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x32x6144, .f32⟩
  | .local _ .vmem, ⟨0, _⟩ => ⟨S32x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x32x1536, .f32⟩
  | .local _ .vmem, ⟨6, _⟩ => ⟨S1x32x1536, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32x1024 : Shape := ⟨2, ![32, 1024]⟩
abbrev S4x1024x6144 : Shape := ⟨3, ![4, 1024, 6144]⟩
abbrev S4x6144 : Shape := ⟨2, ![4, 6144]⟩
abbrev S_ : Shape := ⟨0, ![]⟩
abbrev S4x6144x32 : Shape := ⟨3, ![4, 6144, 32]⟩
abbrev S4x32x6144 : Shape := ⟨3, ![4, 32, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S4x1024x6144, .f32⟩
  | .hbm, ⟨2, _⟩ => ⟨S4x6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S4x6144x32, .f32⟩
  | .hbm, ⟨13, _⟩ => ⟨S4x32x6144, .f32⟩
  | .hbm, ⟨14, _⟩ => ⟨S4x1x6144, .f32⟩
  | .hbm, ⟨15, _⟩ => ⟨S4x32x6144, .f32⟩
  | .hbm, ⟨16, _⟩ => ⟨S4x32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel4.lean ====
abbrev S6x32x2048x128 : Shape := ⟨4, ![6, 32, 2048, 128]⟩
abbrev S65536x256 : Shape := ⟨2, ![65536, 256]⟩
abbrev S65536x1024 : Shape := ⟨2, ![65536, 1024]⟩
abbrev S32x6x1024 : Shape := ⟨3, ![32, 6, 1024]⟩
abbrev S768 : Shape := ⟨1, ![768]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩
abbrev S1x32 : Shape := ⟨2, ![1, 32]⟩
abbrev S1x128 : Shape := ⟨2, ![1, 128]⟩
abbrev S6x65536x128 : Shape := ⟨3, ![6, 65536, 128]⟩
abbrev S1x768 : Shape := ⟨2, ![1, 768]⟩
abbrev S1x1024 : Shape := ⟨2, ![1, 1024]⟩
abbrev S524288x128 : Shape := ⟨2, ![524288, 128]⟩
abbrev S65536x128 : Shape := ⟨2, ![65536, 128]⟩
abbrev S8x128 : Shape := ⟨2, ![8, 128]⟩
abbrev S6x512x128 : Shape := ⟨3, ![6, 512, 128]⟩
abbrev S512x256 : Shape := ⟨2, ![512, 256]⟩
abbrev S512x1024 : Shape := ⟨2, ![512, 1024]⟩
abbrev S1x6x1024 : Shape := ⟨3, ![1, 6, 1024]⟩
abbrev S4096x128 : Shape := ⟨2, ![4096, 128]⟩
abbrev S512x128 : Shape := ⟨2, ![512, 128]⟩
abbrev S512x1 : Shape := ⟨2, ![512, 1]⟩
abbrev S1x512x128 : Shape := ⟨3, ![1, 512, 128]⟩
abbrev S512 : Shape := ⟨1, ![512]⟩
abbrev S6x1024 : Shape := ⟨2, ![6, 1024]⟩
abbrev S512x512 : Shape := ⟨2, ![512, 512]⟩
abbrev S128 : Shape := ⟨1, ![128]⟩

abbrev nBuf : Space → Nat
  | .hbm => 33
  | .vmem => 23
  | .smem => 0
  | _ => 0

abbrev bufTy : (tb : Table) → Fin (tcTables nBuf tb) → BufTy
  | .hbm, ⟨0, _⟩ => ⟨S6x32x2048x128, .f32⟩
  | .hbm, ⟨1, _⟩ => ⟨S65536x256, .bf16⟩
  | .hbm, ⟨2, _⟩ => ⟨S65536x1024, .f32⟩
  | .hbm, ⟨3, _⟩ => ⟨S32x6x1024, .f32⟩
  | .hbm, ⟨4, _⟩ => ⟨S768, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S1x1024x128, .bf16⟩
  | .hbm, ⟨18, _⟩ => ⟨S1x1024x128, .bf16⟩
  | .hbm, ⟨19, _⟩ => ⟨S2x1024x128, .bf16⟩
  | .hbm, ⟨20, _⟩ => ⟨S1x32, .f32⟩
  | .hbm, ⟨21, _⟩ => ⟨S_, .f32⟩
  | .hbm, ⟨22, _⟩ => ⟨S_, .f32⟩
  | .hbm, ⟨23, _⟩ => ⟨S1x128, .f32⟩
  | .hbm, ⟨24, _⟩ => ⟨S1024x1024, .bf16⟩
  | .hbm, ⟨25, _⟩ => ⟨S6x65536x128, .f32⟩
  | .hbm, ⟨26, _⟩ => ⟨S1x768, .f32⟩
  | .hbm, ⟨27, _⟩ => ⟨S1x1024, .f32⟩
  | .hbm, ⟨28, _⟩ => ⟨S1x1024, .f32⟩
  | .hbm, ⟨29, _⟩ => ⟨S65536x1024, .f32⟩
  | .hbm, ⟨30, _⟩ => ⟨S524288x128, .f32⟩
  | .hbm, ⟨31, _⟩ => ⟨S65536x128, .f32⟩
  | .hbm, ⟨32, _⟩ => ⟨S8x128, .f32⟩
  | .local _ .vmem, ⟨0, _⟩ => ⟨S6x512x128, .f32⟩
  | .local _ .vmem, ⟨1, _⟩ => ⟨S6x512x128, .f32⟩
  | .local _ .vmem, ⟨2, _⟩ => ⟨S512x256, .bf16⟩
  | .local _ .vmem, ⟨3, _⟩ => ⟨S512x256, .bf16⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x768, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S2x1024x128, .bf16⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S4096x128, .f32⟩
  | .local _ .vmem, ⟨17, _⟩ => ⟨S4096x128, .f32⟩
  | .local _ .vmem, ⟨18, _⟩ => ⟨S512x128, .f32⟩
  | .local _ .vmem, ⟨19, _⟩ => ⟨S512x128, .f32⟩
  | .local _ .vmem, ⟨20, _⟩ => ⟨S8x128, .f32⟩
  | .local _ .vmem, ⟨21, _⟩ => ⟨S512x1024, .bf16⟩
  | .local _ .vmem, ⟨22, _⟩ => ⟨S8x128, .f32⟩
  | _, _ => ⟨S6x32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel4Ideal.lean ====
variable {F : FTy → Type} [FloatOps F] [Named F]
def κ : String → Option EReal := fun
  | "inv_768" => some ((1 / 768 : ℝ) : EReal)
  | _ => none
-- ==== Reference4Ideal.lean ====
abbrev S6x32x2048x128 : Shape := ⟨4, ![6, 32, 2048, 128]⟩
abbrev S65536x256 : Shape := ⟨2, ![65536, 256]⟩
abbrev S65536x1024 : Shape := ⟨2, ![65536, 1024]⟩
abbrev S32x6x1024 : Shape := ⟨3, ![32, 6, 1024]⟩
abbrev S768 : Shape := ⟨1, ![768]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S32x2048x6x128 : Shape := ⟨4, ![32, 2048, 6, 128]⟩
abbrev S32x2048x768 : Shape := ⟨3, ![32, 2048, 768]⟩
abbrev S_ : Shape := ⟨0, ![]⟩
abbrev S32x2048 : Shape := ⟨2, ![32, 2048]⟩
abbrev S32x2048x1 : Shape := ⟨3, ![32, 2048, 1]⟩
abbrev S1x1x768 : Shape := ⟨3, ![1, 1, 768]⟩
abbrev S32x2048x256 : Shape := ⟨3, ![32, 2048, 256]⟩
abbrev S32x2048x1024 : Shape := ⟨3, ![32, 2048, 1024]⟩
abbrev S32x1x1024 : Shape := ⟨3, ![32, 1, 1024]⟩
abbrev S1x1x1024 : Shape := ⟨3, ![1, 1, 1024]⟩
abbrev S524288x128 : Shape := ⟨2, ![524288, 128]⟩

abbrev nBuf : Space → Nat
  | .hbm => 102
  | .vmem => 0
  | .smem => 0
  | _ => 0

abbrev bufTy : (tb : Table) → Fin (tcTables nBuf tb) → BufTy
  | .hbm, ⟨0, _⟩ => ⟨S6x32x2048x128, .f32⟩
  | .hbm, ⟨1, _⟩ => ⟨S65536x256, .bf16⟩
  | .hbm, ⟨2, _⟩ => ⟨S65536x1024, .f32⟩
  | .hbm, ⟨3, _⟩ => ⟨S32x6x1024, .f32⟩
  | .hbm, ⟨4, _⟩ => ⟨S768, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S32x2048x6x128, .f32⟩
  | .hbm, ⟨11, _⟩ => ⟨S32x2048x768, .f32⟩
  | .hbm, ⟨12, _⟩ => ⟨S32x2048x768, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S32x2048x768, .f32⟩
  | .hbm, ⟨24, _⟩ => ⟨S32x2048x768, .f32⟩
  | .hbm, ⟨25, _⟩ => ⟨S1x1x768, .f32⟩
  | .hbm, ⟨26, _⟩ => ⟨S32x2048x768, .f32⟩
  | .hbm, ⟨27, _⟩ => ⟨S32x2048x768, .f32⟩
  | .hbm, ⟨28, _⟩ => ⟨S65536x256, .f32⟩
  | .hbm, ⟨29, _⟩ => ⟨S32x2048x256, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S_, .f32⟩
  | .hbm, ⟨34, _⟩ => ⟨S32x2048x1024, .f32⟩
  | .hbm, ⟨35, _⟩ => ⟨S32x2048x1024, .f32⟩
  | .hbm, ⟨36, _⟩ => ⟨S32x1x1024, .f32⟩
  | .hbm, ⟨37, _⟩ => ⟨S_, .f32⟩
  | .hbm, ⟨38, _⟩ => ⟨S32x1x1024, .f32⟩
  | .hbm, ⟨39, _⟩ => ⟨S32x1x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S_, .f32⟩
  | .hbm, ⟨44, _⟩ => ⟨S32x2048, .f32⟩
  | .hbm, ⟨45, _⟩ => ⟨S32x2048x1, .f32⟩
  | .hbm, ⟨46, _⟩ => ⟨S_, .f32⟩
  | .hbm, ⟨47, _⟩ => ⟨S32x2048x1, .f32⟩
  | .hbm, ⟨48, _⟩ => ⟨S32x2048x1, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S_, .f32⟩
  | .hbm, ⟨53, _⟩ => ⟨S32x2048, .f32⟩
  | .hbm, ⟨54, _⟩ => ⟨S32x2048x1, .f32⟩
  | .hbm, ⟨55, _⟩ => ⟨S_, .f32⟩
  | .hbm, ⟨56, _⟩ => ⟨S32x2048x1, .f32⟩
  | .hbm, ⟨57, _⟩ => ⟨S32x2048x1, .f32⟩
  | .hbm, ⟨58, _⟩ => ⟨S_, .f32⟩
  | .hbm, ⟨59, _⟩ => ⟨S32x2048x1, .f32⟩
  | .hbm, ⟨60, _⟩ => ⟨S32x2048x1, .f32⟩
  | .hbm, ⟨61, _⟩ => ⟨S32x2048x1, .f32⟩
  | .hbm, ⟨62, _⟩ => ⟨S32x2048x1024, .f32⟩
  | .hbm, ⟨63, _⟩ => ⟨S32x2048x1024, .f32⟩
  | .hbm, ⟨64, _⟩ => ⟨S1x1x1024, .f32⟩
  | .hbm, ⟨65, _⟩ => ⟨S32x2048x1024, .f32⟩
  | .hbm, ⟨66, _⟩ => ⟨S32x2048x1024, .f32⟩
  | .hbm, ⟨67, _⟩ => ⟨S1x1x1024, .f32⟩
  | .hbm, ⟨68, _⟩ => ⟨S32x2048x1024, .f32⟩
  | .hbm, ⟨69, _⟩ => ⟨S32x2048x1024, .f32⟩
  | .hbm, ⟨70, _⟩ => ⟨S_, .f32⟩
  | .hbm, ⟨71, _⟩ => ⟨S32x2048, .f32⟩
  | .hbm, ⟨72, _⟩ => ⟨S32x2048x1, .f32⟩
  | .hbm, ⟨73, _⟩ => ⟨S_, .f32⟩
  | .hbm, ⟨74, _⟩ => ⟨S32x2048x1, .f32⟩
  | .hbm, ⟨75, _⟩ => ⟨S32x2048x1, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S_, .f32⟩
  | .hbm, ⟨80, _⟩ => ⟨S32x2048, .f32⟩
  | .hbm, ⟨81, _⟩ => ⟨S32x2048x1, .f32⟩
  | .hbm, ⟨82, _⟩ => ⟨S_, .f32⟩
  | .hbm, ⟨83, _⟩ => ⟨S32x2048x1, .f32⟩
  | .hbm, ⟨84, _⟩ => ⟨S32x2048x1, .f32⟩
  | .hbm, ⟨85, _⟩ => ⟨S_, .f32⟩
  | .hbm, ⟨86, _⟩ => ⟨S32x2048x1, .f32⟩
  | .hbm, ⟨87, _⟩ => ⟨S32x2048x1, .f32⟩
  | .hbm, ⟨88, _⟩ => ⟨S32x2048x1, .f32⟩
  | .hbm, ⟨89, _⟩ => ⟨S32x2048x1024, .f32⟩
  | .hbm, ⟨90, _⟩ => ⟨S32x2048x1024, .f32⟩
  | .hbm, ⟨91, _⟩ => ⟨S32x1x1024, .f32⟩
  | .hbm, ⟨92, _⟩ => ⟨S_, .f32⟩
  | .hbm, ⟨93, _⟩ => ⟨S32x1x1024, .f32⟩
  | .hbm, ⟨94, _⟩ => ⟨S32x1x1024, .f32⟩
  | .hbm, ⟨95, _⟩ => ⟨S32x2048x1024, .f32⟩
  | .hbm, ⟨96, _⟩ => ⟨S32x2048x1024, .f32⟩
  | .hbm, ⟨97, _⟩ => ⟨S32x1x1024, .f32⟩
  | .hbm, ⟨98, _⟩ => ⟨S32x2048x1024, .f32⟩
  | .hbm, ⟨99, _⟩ => ⟨S32x2048x1024, .f32⟩
  | .hbm, ⟨100, _⟩ => ⟨S65536x1024, .f32⟩
  | .hbm, ⟨101, _⟩ => ⟨S524288x128, .f32⟩
  | _, _ => ⟨S6x32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Proof.Setup.lean ====
/- The expert FFN's launch: what the region finds in every buffer after the two host reshapes, the prefetched
   tables, each window's block of its array, and the staging and scratch buffers as the kernel's body sees them. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- What buffer `b` of core `c` holds when the region is entered: the launch memory after the two bias reshapes. -/
abbrev V (c : Dev nD) (b : Ref sig .tc) : Buf (Elt F) ((c : Thread nD τ).loc b) :=
  StableHlo.after hostOps0 (fun b => m (c, b)) b

theorem fresh0 : (hostOps0 : List (HloOp τ sig (Elt F))).Forall fun op => op.fresh = ∅ := by
  simp only [List.Forall]; repeat' constructor

set_option maxHeartbeats 800000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh0 main_chain

/-- A buffer that is neither reshaped bias is found as launched. -/
theorem V_kept (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The prefetched tables -/

/-- The three tables' contents at the region's entry (there is one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The tables name blocks inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev teM : Memref sig .tc .smem S544 .i32 := Memref.whole main_arg0
abbrev txM : Memref sig .tc .smem S544 .i32 := Memref.whole main_arg1
abbrev tvM : Memref sig .tc .smem S544 .i32 := Memref.whole main_arg2

/-- A table's contents on core `c`, and the half share of it that the body may read. -/
abbrev TbBuf (c : Dev nD) {S : Shape} {e : EltTy} (M : Memref sig .tc .smem S e) : Type :=
  Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c teM (tbl m 0) ∗ tbPt c txM (tbl m 1) ∗ tbPt c tvM (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array at the region's entry. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

section before
variable (hO : Ok m) {c : Dev nD} (dat : Dat τ (Elt F) Unit ℕ (UR sig nD τ) ℕ (cfgM m hO) c)

/-! An input window's staging buffer holds its block at every point, fetched there or not. -/

theorem before0_of (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; rfl) t d).trans (by unfold Dat.fetched Dat.blockOf iblk; rw [hA]; rfl)
theorem before1_of (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; rfl) t d).trans (by unfold Dat.fetched Dat.blockOf iblk; rw [hA]; rfl)
theorem before2_of (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; rfl) t d).trans (by unfold Dat.fetched Dat.blockOf iblk; rw [hA]; rfl)
theorem before3_of (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [hafter]; unfold Dat.blockOf iblk; rw [hA]; rfl) t d).trans (by unfold Dat.fetched Dat.blockOf iblk; rw [hA]; rfl)
theorem before4_of (hA : dat.A 4 = V m c (Pipeline.arrRef spec0 4)) (hafter : ∀ t, dat.after 4 t = iblk m hO c 4 t)
    (t : Fin (cfgM m hO).N) (d) : dat.before 4 t d = iblk m hO c 4 t :=
  (dat.before_in_eq_fetched 4 rfl (fun _ => rfl) (fun _ _ _ => rfl)
    (fun t => by rw [hafter]; unfold Dat.blockOf iblk; rw [hA]; rfl) t d).trans (by unfold Dat.fetched Dat.blockOf iblk; rw [hA]; rfl)

end before

/-! ## Staging and scratch buffers -/

abbrev ms0 (hO : Ok m) (t : Fin (cfgM m hO).N) : Memref sig .tc .vmem S4096x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x2048 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1024x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S4096x128 .f32 := spec0_5.stage ((cfgM m hO).slots t 5)
abbrev hs5 (hO : Ok m) (t : Fin (cfgM m hO).N) : (ms5 m hO t).IsWhole := hstage0_5 (((cfgM m hO).slots t 5).cast nbuf0_5)

/-- The rows and the two weights in the matrix unit's format. -/
abbrev xbM : Memref sig .tc .vmem S512x1024 .bf16 := Memref.whole cc0_scratch0
abbrev w1M : Memref sig .tc .vmem S1024x2048 .bf16 := Memref.whole cc0_scratch1
abbrev w2M : Memref sig .tc .vmem S1024x1024 .bf16 := Memref.whole cc0_scratch2

theorem PhiA_eq (c : Dev nD) : (Pipeline.ΦA spec0 c : sProp 𝕄)
    = iprop(iprop((∃ d, owns (c : Thread nD τ) xbM fullShare d) ∗ (∃ d, owns (c : Thread nD τ) w1M fullShare d)
        ∗ (∃ d, owns (c : Thread nD τ) w2M fullShare d)) ∗ (∃ r, prngReg c r)) := by
  unfold Pipeline.ΦA; rw [scopedRest0_eq]; simp only [xbM, w1M, w2M, owns_whole]; rfl

/-- The body at point `t`, on what the pipeline calls it with. -/
abbrev bodyAt (hO : Ok m) (t : Fin (cfgM m hO).N) : Prog (TpuEff nD τ sig (Elt F) Λ₀ .tc) PUnit :=
  cc0_moe_ffn (grid0.coords t) teM (Memref.isWhole_whole _) txM (Memref.isWhole_whole _) tvM (Memref.isWhole_whole _)
    (ms0 m hO t) (hs0 m hO t) (ms1 m hO t) (hs1 m hO t) (ms2 m hO t) (hs2 m hO t) (ms3 m hO t) (hs3 m hO t)
    (ms4 m hO t) (hs4 m hO t) (ms5 m hO t) (hs5 m hO t)
    xbM (Memref.isWhole_whole _) w1M (Memref.isWhole_whole _) w2M (Memref.isWhole_whole _)

end Cert.KernelIdeal.Moe

end
-- ==== Proof.Rows.lean ====
/- A tile's rows between the two layouts of the kernel: 4096 lines of 128 as the row blocks lie in memory, and 512
   rows of 1024 as the matrix unit takes them. -/
module

public import proofs.«01_k».proof.Proof.Setup
public import Idealize.ShloMosaic.Lib.Writes
public import Idealize.ShloMosaic.Lib.WholeRead
public import Idealize.ShloMosaic.Lib.VecWindow
public import Idealize.ShloMosaic.Lib.Pipeline.Value
public import Idealize.ShloMosaic.Lib.ValueIdxCore

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

/-- Line `8 r + s` of a block is columns `128 s … 128 s + 127` of row `r`. -/
def rowsOf {φ : FTy} (x : FVec F S4096x128 φ) : FVec F S512x1024 φ := fun j =>
  x (ix2 (n0 := 4096) (n1 := 128) ⟨8 * (j 0).val + (j 1).val / 128, by have := idx2_lt0 j; have := idx2_lt1 j; omega⟩
    ⟨(j 1).val % 128, Nat.mod_lt _ (by decide)⟩)

/-- And back. -/
def tileOf {φ : FTy} (y : FVec F S512x1024 φ) : FVec F S4096x128 φ := fun j =>
  y (ix2 (n0 := 512) (n1 := 1024) ⟨(j 0).val / 8, by have := idx2_lt0 j; omega⟩
    ⟨(j 0).val % 8 * 128 + (j 1).val, by have := idx2_lt1 j; omega⟩)

/-- The strided store number `s` takes columns `128 s …` of the rows to the lines `≡ s mod 8`. -/
theorem slice_tileOf {φ : FTy} (y : FVec F S512x1024 φ) (s o : ℕ) (ho : o = 128 * s) (hs : s < 8)
    (h : S512x1024.Slices ![0, o] S512x128) (inb) (sp) (x : S512x128.Idx) :
    extractStridedSlice S512x128 ![0, o] y h x
      = tileOf y ((⟨(⟨![s, 0], S512x128.size, ![8, 1], inb⟩ : LoadRect S4096x128), sp⟩ : Rect S4096x128).emb x) := by
  have h0 : (x 0).val < 512 := (x 0).isLt
  have h1 : (x 1).val < 128 := (x 1).isLt
  refine congrArg y (funext fun a => Fin.ext ?_)
  match a with
  | ⟨0, _⟩ => show 0 + (x 0).val = (s + 8 * (x 0).val) / 8; omega
  | ⟨1, _⟩ => show o + (x 1).val = (s + 8 * (x 0).val) % 8 * 128 + (0 + 1 * (x 1).val); omega

/-- The eight strided stores of the result's column blocks leave the result, whatever the block held before. -/
theorem read_out (v : View sig .tc .vmem S4096x128 .f32) (f : v.ty.Contents (Elt F))
    (A : FVec F S512x1024 .bf16) (B : Vec F S1024x1024 .bf16) (C : FVec F S512x1024 .f32) (b : Vec F S1x1x1024 .f32) :
    v.read (Elt F) (v.writes (Elt F) f
      [⟨⟨⟨![7, 0], S512x128.size, ![8, 1], inb_S4096x128_S512x128_7_0_s_8_1⟩, spos_8_1⟩, k0_pay11 A B C b⟩,
       ⟨⟨⟨![6, 0], S512x128.size, ![8, 1], inb_S4096x128_S512x128_6_0_s_8_1⟩, spos_8_1⟩, k0_pay10 A B C b⟩,
       ⟨⟨⟨![5, 0], S512x128.size, ![8, 1], inb_S4096x128_S512x128_5_0_s_8_1⟩, spos_8_1⟩, k0_pay9 A B C b⟩,
       ⟨⟨⟨![4, 0], S512x128.size, ![8, 1], inb_S4096x128_S512x128_4_0_s_8_1⟩, spos_8_1⟩, k0_pay8 A B C b⟩,
       ⟨⟨⟨![3, 0], S512x128.size, ![8, 1], inb_S4096x128_S512x128_3_0_s_8_1⟩, spos_8_1⟩, k0_pay7 A B C b⟩,
       ⟨⟨⟨![2, 0], S512x128.size, ![8, 1], inb_S4096x128_S512x128_2_0_s_8_1⟩, spos_8_1⟩, k0_pay6 A B C b⟩,
       ⟨⟨⟨![1, 0], S512x128.size, ![8, 1], inb_S4096x128_S512x128_1_0_s_8_1⟩, spos_8_1⟩, k0_pay5 A B C b⟩,
       ⟨⟨⟨![0, 0], S512x128.size, ![8, 1], inb_S4096x128_S512x128_0_0_s_8_1⟩, spos_8_1⟩, k0_pay4 A B C b⟩])
      = tileOf (k0_pay3 A B C b) := by
  funext y
  refine View.read_writes_apply_of_pieces v f (tileOf (k0_pay3 A B C b)) _ ?_ y ?_
  · intro p hp x
    simp only [List.mem_cons, List.not_mem_nil, _root_.or_false] at hp
    rcases hp with rfl | rfl | rfl | rfl | rfl | rfl | rfl | rfl
    · exact slice_tileOf (k0_pay3 A B C b) 7 896 rfl (by decide) slices_S512x1024_o0_896_S512x128 _ _ x
    · exact slice_tileOf (k0_pay3 A B C b) 6 768 rfl (by decide) slices_S512x1024_o0_768_S512x128 _ _ x
    · exact slice_tileOf (k0_pay3 A B C b) 5 640 rfl (by decide) slices_S512x1024_o0_640_S512x128 _ _ x
    · exact slice_tileOf (k0_pay3 A B C b) 4 512 rfl (by decide) slices_S512x1024_o0_512_S512x128 _ _ x
    · exact slice_tileOf (k0_pay3 A B C b) 3 384 rfl (by decide) slices_S512x1024_o0_384_S512x128 _ _ x
    · exact slice_tileOf (k0_pay3 A B C b) 2 256 rfl (by decide) slices_S512x1024_o0_256_S512x128 _ _ x
    · exact slice_tileOf (k0_pay3 A B C b) 1 128 rfl (by decide) slices_S512x1024_o0_128_S512x128 _ _ x
    · exact slice_tileOf (k0_pay3 A B C b) 0 0 rfl (by decide) slices_S512x1024_o0_0_S512x128 _ _ x
  · have h0 := idx2_lt0 y
    have h1 := idx2_lt1 y
    have key : ∀ (s : ℕ) (inb) (sp), (y 0).val % 8 = s →
        y ∈ (⟨(⟨![s, 0], S512x128.size, ![8, 1], inb⟩ : LoadRect S4096x128), sp⟩ : Rect S4096x128).set := by
      intro s inb sp hs
      rw [LoadRect.mem_set]
      intro a
      match a with
      | ⟨0, _⟩ => exact ⟨(y 0).val / 8, by show (y 0).val / 8 < 512; omega, by show (y 0).val = s + 8 * ((y 0).val / 8); omega⟩
      | ⟨1, _⟩ => exact ⟨(y 1).val, h1, by show (y 1).val = 0 + 1 * (y 1).val; omega⟩
    obtain e | e | e | e | e | e | e | e : (y 0).val % 8 = 7 ∨ (y 0).val % 8 = 6 ∨ (y 0).val % 8 = 5 ∨ (y 0).val % 8 = 4
        ∨ (y 0).val % 8 = 3 ∨ (y 0).val % 8 = 2 ∨ (y 0).val % 8 = 1 ∨ (y 0).val % 8 = 0 := by omega
    · exact ⟨_, .head _, key 7 inb_S4096x128_S512x128_7_0_s_8_1 _ e⟩
    · exact ⟨_, .tail _ (.head _), key 6 inb_S4096x128_S512x128_6_0_s_8_1 _ e⟩
    · exact ⟨_, .tail _ (.tail _ (.head _)), key 5 inb_S4096x128_S512x128_5_0_s_8_1 _ e⟩
    · exact ⟨_, .tail _ (.tail _ (.tail _ (.head _))), key 4 inb_S4096x128_S512x128_4_0_s_8_1 _ e⟩
    · exact ⟨_, .tail _ (.tail _ (.tail _ (.tail _ (.head _)))), key 3 inb_S4096x128_S512x128_3_0_s_8_1 _ e⟩
    · exact ⟨_, .tail _ (.tail _ (.tail _ (.tail _ (.tail _ (.head _))))), key 2 inb_S4096x128_S512x128_2_0_s_8_1 _ e⟩
    · exact ⟨_, .tail _ (.tail _ (.tail _ (.tail _ (.tail _ (.tail _ (.head _)))))), key 1 inb_S4096x128_S512x128_1_0_s_8_1 _ e⟩
    · exact ⟨_, .tail _ (.tail _ (.tail _ (.tail _ (.tail _ (.tail _ (.tail _ (.head _))))))), key 0 inb_S4096x128_S512x128_0_0_s_8_1 _ e⟩

/-- A strided load of a row block, taken to the matrix unit's format: the columns `128 s …` of its rows. -/
theorem ld_rowsOf (m₀ : Memref sig .tc .vmem S4096x128 .f32) (h : m₀.IsWhole) (x : Vec F S4096x128 .f32) (s o : ℕ)
    (ho : o = 128 * s) (hs : s < 8) (inb) (inb') (z : S512x128.Idx) :
    k0_pay13 (View.readAt (Elt F) m₀.view (⟨![s, 0], S512x128.size, ![8, 1], inb⟩ : LoadRect S4096x128) (h.unread x)) z
      = truncf .bf16 (rowsOf x) bitsLt_bf16_f32 ((Rect.unit (s := S512x1024) ![0, o] S512x128.size inb').emb z) := by
  have h0 : (z 0).val < 512 := (z 0).isLt
  have h1 : (z 1).val < 128 := (z 1).isLt
  unfold k0_pay13
  rw [shapeCast_self]
  show FloatOps.truncf _ _ _ = FloatOps.truncf _ _ _
  congr 1
  rw [h.readAt_unread]
  refine congrArg x (funext fun a => Fin.ext ?_)
  match a with
  | ⟨0, _⟩ => show s + 8 * (z 0).val = 8 * (0 + 1 * (z 0).val) + (o + 1 * (z 1).val) / 128; omega
  | ⟨1, _⟩ => show 0 + 1 * (z 1).val = (o + 1 * (z 1).val) % 128; omega

/-- The eight strided loads of a row block, stored side by side and read back: the block's rows in the matrix unit's format. -/
theorem readCov_rows (v : View sig .tc .vmem S512x1024 .bf16) (m₀ : Memref sig .tc .vmem S4096x128 .f32) (h : m₀.IsWhole)
    (x : Vec F S4096x128 .f32) :
    v.readCov (Val := Elt F)
      [⟨Rect.unit (s := S512x1024) ![0, 896] S512x128.size inb_S512x1024_S512x128_0_896, k0_pay20 (View.readAt (Elt F) m₀.view (⟨![7, 0], S512x128.size, ![8, 1], inb_S4096x128_S512x128_7_0_s_8_1⟩ : LoadRect S4096x128) (h.unread x))⟩,
       ⟨Rect.unit (s := S512x1024) ![0, 768] S512x128.size inb_S512x1024_S512x128_0_768, k0_pay19 (View.readAt (Elt F) m₀.view (⟨![6, 0], S512x128.size, ![8, 1], inb_S4096x128_S512x128_6_0_s_8_1⟩ : LoadRect S4096x128) (h.unread x))⟩,
       ⟨Rect.unit (s := S512x1024) ![0, 640] S512x128.size inb_S512x1024_S512x128_0_640, k0_pay18 (View.readAt (Elt F) m₀.view (⟨![5, 0], S512x128.size, ![8, 1], inb_S4096x128_S512x128_5_0_s_8_1⟩ : LoadRect S4096x128) (h.unread x))⟩,
       ⟨Rect.unit (s := S512x1024) ![0, 512] S512x128.size inb_S512x1024_S512x128_0_512, k0_pay17 (View.readAt (Elt F) m₀.view (⟨![4, 0], S512x128.size, ![8, 1], inb_S4096x128_S512x128_4_0_s_8_1⟩ : LoadRect S4096x128) (h.unread x))⟩,
       ⟨Rect.unit (s := S512x1024) ![0, 384] S512x128.size inb_S512x1024_S512x128_0_384, k0_pay16 (View.readAt (Elt F) m₀.view (⟨![3, 0], S512x128.size, ![8, 1], inb_S4096x128_S512x128_3_0_s_8_1⟩ : LoadRect S4096x128) (h.unread x))⟩,
       ⟨Rect.unit (s := S512x1024) ![0, 256] S512x128.size inb_S512x1024_S512x128_0_256, k0_pay15 (View.readAt (Elt F) m₀.view (⟨![2, 0], S512x128.size, ![8, 1], inb_S4096x128_S512x128_2_0_s_8_1⟩ : LoadRect S4096x128) (h.unread x))⟩,
       ⟨Rect.unit (s := S512x1024) ![0, 128] S512x128.size inb_S512x1024_S512x128_0_128, k0_pay14 (View.readAt (Elt F) m₀.view (⟨![1, 0], S512x128.size, ![8, 1], inb_S4096x128_S512x128_1_0_s_8_1⟩ : LoadRect S4096x128) (h.unread x))⟩,
       ⟨Rect.unit (s := S512x1024) ![0, 0] S512x128.size inb_S512x1024_S512x128_0_0, k0_pay13 (View.readAt (Elt F) m₀.view (⟨![0, 0], S512x128.size, ![8, 1], inb_S4096x128_S512x128_0_0_s_8_1⟩ : LoadRect S4096x128) (h.unread x))⟩]
      (Rect.unit (s := S512x1024) ![0, 0] S512x1024.size inb_S512x1024_S512x1024_0_0).toLoadRect
      = truncf .bf16 (rowsOf x) bitsLt_bf16_f32 := by
  have cover : ∀ (w7 w6 w5 w4 w3 w2 w1 w0 : FVec F S512x128 .bf16) (y : S512x1024.Idx), ∃ p ∈
      ([⟨Rect.unit (s := S512x1024) ![0, 896] S512x128.size inb_S512x1024_S512x128_0_896, w7⟩,
        ⟨Rect.unit (s := S512x1024) ![0, 768] S512x128.size inb_S512x1024_S512x128_0_768, w6⟩,
        ⟨Rect.unit (s := S512x1024) ![0, 640] S512x128.size inb_S512x1024_S512x128_0_640, w5⟩,
        ⟨Rect.unit (s := S512x1024) ![0, 512] S512x128.size inb_S512x1024_S512x128_0_512, w4⟩,
        ⟨Rect.unit (s := S512x1024) ![0, 384] S512x128.size inb_S512x1024_S512x128_0_384, w3⟩,
        ⟨Rect.unit (s := S512x1024) ![0, 256] S512x128.size inb_S512x1024_S512x128_0_256, w2⟩,
        ⟨Rect.unit (s := S512x1024) ![0, 128] S512x128.size inb_S512x1024_S512x128_0_128, w1⟩,
        ⟨Rect.unit (s := S512x1024) ![0, 0] S512x128.size inb_S512x1024_S512x128_0_0, w0⟩]
          : List (View.Piece (Elt F) S512x1024 .bf16)), y ∈ p.1.set := by
    intro w7 w6 w5 w4 w3 w2 w1 w0 y
    have h0 := idx2_lt0 y
    have h1 := idx2_lt1 y
    have key : ∀ (o : ℕ) (inb), (y 1).val / 128 = o / 128 → o % 128 = 0 →
        y ∈ (Rect.unit (s := S512x1024) ![0, o] S512x128.size inb).set := by
      intro o inb hs ho
      rw [Rect.mem_set_unit]
      intro a
      match a with
      | ⟨0, _⟩ => exact ⟨Nat.zero_le _, by show (y 0).val < 0 + 512; omega⟩
      | ⟨1, _⟩ => exact ⟨by show o ≤ (y 1).val; omega, by show (y 1).val < o + 128; omega⟩
    obtain e | e | e | e | e | e | e | e : (y 1).val / 128 = 7 ∨ (y 1).val / 128 = 6 ∨ (y 1).val / 128 = 5 ∨ (y 1).val / 128 = 4
        ∨ (y 1).val / 128 = 3 ∨ (y 1).val / 128 = 2 ∨ (y 1).val / 128 = 1 ∨ (y 1).val / 128 = 0 := by omega
    · exact ⟨_, .head _, key 896 inb_S512x1024_S512x128_0_896 e rfl⟩
    · exact ⟨_, .tail _ (.head _), key 768 inb_S512x1024_S512x128_0_768 e rfl⟩
    · exact ⟨_, .tail _ (.tail _ (.head _)), key 640 inb_S512x1024_S512x128_0_640 e rfl⟩
    · exact ⟨_, .tail _ (.tail _ (.tail _ (.head _))), key 512 inb_S512x1024_S512x128_0_512 e rfl⟩
    · exact ⟨_, .tail _ (.tail _ (.tail _ (.tail _ (.head _)))), key 384 inb_S512x1024_S512x128_0_384 e rfl⟩
    · exact ⟨_, .tail _ (.tail _ (.tail _ (.tail _ (.tail _ (.head _))))), key 256 inb_S512x1024_S512x128_0_256 e rfl⟩
    · exact ⟨_, .tail _ (.tail _ (.tail _ (.tail _ (.tail _ (.tail _ (.head _)))))), key 128 inb_S512x1024_S512x128_0_128 e rfl⟩
    · exact ⟨_, .tail _ (.tail _ (.tail _ (.tail _ (.tail _ (.tail _ (.tail _ (.head _))))))), key 0 inb_S512x1024_S512x128_0_0 e rfl⟩
  refine (View.readCov_eq_canon_ld v _ _ (cover _ _ _ _ _ _ _ _)).trans ?_
  refine (View.ld_unit_zero (S := S512x1024) (by funext a; match a with | ⟨0, _⟩ => rfl | ⟨1, _⟩ => rfl) _ _).trans ?_
  funext y
  refine View.canon_apply_of_pieces (Val := Elt F) (S := S512x1024) (truncf .bf16 (rowsOf x) bitsLt_bf16_f32) _ ?_ y
    (cover _ _ _ _ _ _ _ _ y)
  intro p hp z
  simp only [List.mem_cons, List.not_mem_nil, _root_.or_false] at hp
  rcases hp with rfl | rfl | rfl | rfl | rfl | rfl | rfl | rfl
  · exact ld_rowsOf m₀ h x 7 896 rfl (by decide) _ inb_S512x1024_S512x128_0_896 z
  · exact ld_rowsOf m₀ h x 6 768 rfl (by decide) _ inb_S512x1024_S512x128_0_768 z
  · exact ld_rowsOf m₀ h x 5 640 rfl (by decide) _ inb_S512x1024_S512x128_0_640 z
  · exact ld_rowsOf m₀ h x 4 512 rfl (by decide) _ inb_S512x1024_S512x128_0_512 z
  · exact ld_rowsOf m₀ h x 3 384 rfl (by decide) _ inb_S512x1024_S512x128_0_384 z
  · exact ld_rowsOf m₀ h x 2 256 rfl (by decide) _ inb_S512x1024_S512x128_0_256 z
  · exact ld_rowsOf m₀ h x 1 128 rfl (by decide) _ inb_S512x1024_S512x128_0_128 z
  · exact ld_rowsOf m₀ h x 0 0 rfl (by decide) _ inb_S512x1024_S512x128_0_0 z

/-- What a tile of 512 rows, laid out as a block of lines, becomes under one expert's feed-forward network. -/
def tileFfn (x : Vec F S4096x128 .f32) (W1 : Vec F S1024x2048 .bf16) (b1 : Vec F S1x1x2048 .f32)
    (W2 : Vec F S1024x1024 .bf16) (b2 : Vec F S1x1x1024 .f32) : FVec F S4096x128 .f32 :=
  tileOf (k0_pay3 (k0_pay21 (truncf .bf16 (rowsOf x) bitsLt_bf16_f32) W1 b1) W2 (constant S512x1024 .f32 0x00000000#32) b2)

/-- What the kernel leaves in a tile's block: zeros for an unused tile. -/
def tileOut (tv : BitVec 32) (x : Vec F S4096x128 .f32) (w1 : Vec F S1x1024x2048 .f32) (b1 : Vec F S1x1x2048 .f32)
    (w2 : Vec F S1x1024x1024 .f32) (b2 : Vec F S1x1x1024 .f32) : FVec F S4096x128 .f32 :=
  if k0_cond3 tv = 1#1 then k0_pay12 else tileFfn x (k0_pay1 w1) b1 (k0_pay2 w2) b2

end Cert.KernelIdeal.Moe

end
-- ==== Proof.Run.lean ====
/- One tile's run of the kernel's body: the expert's weights are rounded when the tile is the first of its expert,
   and the tile's block of rows becomes the expert's feed-forward network of it. -/
module

public import proofs.«01_k».proof.Proof.Rows

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

/-- The word a table holds at the offsets `off`. -/
abbrev wordAt (c : Dev nD) (M : Memref sig .tc .smem S544 .i32) (xt : TbBuf (F := F) c M) (off : Fin 1 → ℕ)
    (inb : ∀ a, off a + S1.size a ≤ S544.size a) : BitVec 32 :=
  View.readAt (Elt F) M.view (Rect.unit (s := S544) off S1.size inb).toLoadRect xt (Shape.Idx.first (Nat.lt_of_lt_of_eq Nat.one_pos numel1_S1.symm))

/-- Whether the tile at point `i` is the first of its expert, from the expert's word there and at the point before. -/
abbrev reload (i : grid0.Coords) (te tp : BitVec 32) : BitVec 1 :=
  Scalar.cmpi .ne (Scalar.extui (Scalar.ori (Scalar.cmpi .eq (BitVec.ofNat 32 (i 0).val) 0#32) (Scalar.cmpi .ne te tp)) : BitVec 32) 0#32

theorem tile_congr {A A' : Vec F S512x1024 .bf16} {B B' : Vec F S1024x2048 .bf16} {b b' : Vec F S1x1x2048 .f32}
    {D D' : Vec F S1024x1024 .bf16} {C C' : FVec F S512x1024 .f32} {d d' : Vec F S1x1x1024 .f32}
    (hA : A = A') (hB : B = B') (hb : b = b') (hD : D = D') (hC : C = C') (hd : d = d') :
    tileOf (k0_pay3 (k0_pay21 A B b) D C d) = tileOf (k0_pay3 (k0_pay21 A' B' b') D' C' d') := by
  subst hA hB hb hD hC hd; rfl

set_option maxHeartbeats 1000000 in
theorem run_tile (c : Dev nD) (i : grid0.Coords) (arg4 : Memref sig .tc .vmem S4096x128 .f32) (harg4 : arg4.IsWhole)
    (arg5 : Memref sig .tc .vmem S1x1024x2048 .f32) (harg5 : arg5.IsWhole) (arg6 : Memref sig .tc .vmem S1x1x2048 .f32) (harg6 : arg6.IsWhole)
    (arg7 : Memref sig .tc .vmem S1x1024x1024 .f32) (harg7 : arg7.IsWhole) (arg8 : Memref sig .tc .vmem S1x1x1024 .f32) (harg8 : arg8.IsWhole)
    (arg9 : Memref sig .tc .vmem S4096x128 .f32) (harg9 : arg9.IsWhole) (arg10 : Memref sig .tc .vmem S512x1024 .bf16) (harg10 : arg10.IsWhole)
    (arg11 : Memref sig .tc .vmem S1024x2048 .bf16) (harg11 : arg11.IsWhole) (arg12 : Memref sig .tc .vmem S1024x1024 .bf16) (harg12 : arg12.IsWhole)
    (x0 : Vec F S4096x128 .f32) (x1 : Vec F S1x1024x2048 .f32) (x2 : Vec F S1x1x2048 .f32) (x3 : Vec F S1x1024x1024 .f32)
    (x4 : Vec F S1x1x1024 .f32) (xt0 : TbBuf (F := F) c teM) (xt2 : TbBuf (F := F) c tvM)
    (s1 : Vec F S1024x2048 .bf16) (s2 : Vec F S1024x1024 .bf16)
    (hs : ¬ reload i (wordAt c teM xt0 (k0_off1 i) (k0_off1_inb i)) (wordAt c teM xt0 (k0_off2 i) (k0_off2_inb i)) = 1#1 →
      s1 = k0_pay1 x1 ∧ s2 = k0_pay2 x3)
    (hv : k0_cond2 (wordAt c tvM xt2 (k0_off3 i) (k0_off3_inb i)) = 1#1 ∨ k0_cond3 (wordAt c tvM xt2 (k0_off3 i) (k0_off3_inb i)) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ owns (c : Thread nD τ) arg11 fullShare s1 ∗ owns (c : Thread nD τ) arg12 fullShare s2 ∗ tbPt c teM xt0 ∗ tbPt c tvM xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (tileOut (wordAt c tvM xt2 (k0_off3 i) (k0_off3_inb i)) x0 x1 x2 x3 x4) ∗ (∃ d, owns (c : Thread nD τ) arg10 fullShare d) ∗ owns (c : Thread nD τ) arg11 fullShare (k0_pay1 x1) ∗ owns (c : Thread nD τ) arg12 fullShare (k0_pay2 x3) ∗ tbPt c teM xt0 ∗ tbPt c tvM xt2) -∗ K ⟨⟩))
      ⊢ wp frame (wpE (defs₀ (F := F)) Variants.none c none) E (cc0_moe_ffn i teM (Memref.isWhole_whole _) txM (Memref.isWhole_whole _) tvM (Memref.isWhole_whole _) arg4 harg4 arg5 harg5 arg6 harg6 arg7 harg7 arg8 harg8 arg9 harg9 arg10 harg10 arg11 harg11 arg12 harg12) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, ⟨%fs2, %hfs2, HS2⟩, HT0, HT2, Hk⟩
  obtain rfl := harg4.eq_unread hf0; obtain rfl := harg5.eq_unread hf1; obtain rfl := harg6.eq_unread hf2; obtain rfl := harg7.eq_unread hf3; obtain rfl := harg8.eq_unread hf4
  obtain rfl := harg11.eq_unread hfs1
  obtain rfl := harg12.eq_unread hfs2
  sl_exec
  sl_step
  iapply Hk
  -- the weights' buffers after the run
  have hw1 : ∀ (h : Memref.IsWhole arg11), arg11.view.read (Elt F) (if hc : reload i (wordAt c teM xt0 (k0_off1 i) (k0_off1_inb i)) (wordAt c teM xt0 (k0_off2 i) (k0_off2_inb i)) = 1#1 then
      arg11.view.writes (Elt F) (h.unread s1) [⟨Rect.unit (s := S1024x2048) ![0, 0] S1024x2048.size inb_S1024x2048_S1024x2048_0_0,
        k0_pay1 (View.readAt (Elt F) arg5.view (Rect.unit (s := S1x1024x2048) ![0, 0, 0] S1x1024x2048.size inb_S1x1024x2048_S1x1024x2048_0_0_0).toLoadRect (harg5.unread x1))⟩]
      else h.unread s1) = k0_pay1 x1 := by
    intro h
    by_cases hc : reload i (wordAt c teM xt0 (k0_off1 i) (k0_off1_inb i)) (wordAt c teM xt0 (k0_off2 i) (k0_off2_inb i)) = 1#1
    · rw [dif_pos hc, View.read_writes_full, View.readAt_full, harg5.read_unread]
    · rw [dif_neg hc, h.read_unread, (hs hc).1]
  have hw2 : ∀ (h : Memref.IsWhole arg12), arg12.view.read (Elt F) (if hc : reload i (wordAt c teM xt0 (k0_off1 i) (k0_off1_inb i)) (wordAt c teM xt0 (k0_off2 i) (k0_off2_inb i)) = 1#1 then
      arg12.view.writes (Elt F) (h.unread s2) [⟨Rect.unit (s := S1024x1024) ![0, 0] S1024x1024.size inb_S1024x1024_S1024x1024_0_0,
        k0_pay2 (View.readAt (Elt F) arg7.view (Rect.unit (s := S1x1024x1024) ![0, 0, 0] S1x1024x1024.size inb_S1x1024x1024_S1x1024x1024_0_0_0).toLoadRect (harg7.unread x3))⟩]
      else h.unread s2) = k0_pay2 x3 := by
    intro h
    by_cases hc : reload i (wordAt c teM xt0 (k0_off1 i) (k0_off1_inb i)) (wordAt c teM xt0 (k0_off2 i) (k0_off2_inb i)) = 1#1
    · rw [dif_pos hc, View.read_writes_full, View.readAt_full, harg7.read_unread]
    · rw [dif_neg hc, h.read_unread, (hs hc).2]
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    by_cases h3 : k0_cond3 (wordAt c tvM xt2 (k0_off3 i) (k0_off3_inb i)) = 1#1
    · refine (congrArg (arg9.view.read (Elt F)) (dif_pos h3)).trans ?_
      refine (View.read_writes_full _ _ _ _ _).trans ?_
      exact (if_pos h3).symm
    · have h2 := hv.resolve_right h3
      refine (congrArg (arg9.view.read (Elt F)) ((dif_neg h3).trans (dif_pos h2))).trans ?_
      refine (read_out _ _ _ _ _ _).trans (.trans ?_ (if_neg h3).symm)
      refine tile_congr (readCov_rows _ arg4 harg4 x0) ?_ ?_ ?_ rfl ?_
      · exact (View.readAt_full _ _ _).trans (hw1 _)
      · exact (View.readAt_full _ _ _).trans (harg6.read_unread _)
      · exact (View.readAt_full _ _ _).trans (hw2 _)
      · exact (View.readAt_full _ _ _).trans (harg8.read_unread _)
  isplitl [HS0]
  · iexists _, _; isplitr; swap; · iexact HS0
    ipureintro; rfl
  isplitl [HS1]
  · iexists _; isplitr; swap; · iexact HS1
    ipureintro; exact hw1 _
  isplitl [HS2]
  · iexists _; isplitr; swap; · iexact HS2
    ipureintro; exact hw2 _
  isplitl [HT0]; · iexact HT0
  iexact HT2

end Cert.KernelIdeal.Moe

end
-- ==== Proof.Blocks.lean ====
/- Which rows and which expert each tile's blocks are: the tables' words at a grid point, and each input window's
   block as a read of its array. -/
module

public import proofs.«01_k».proof.Proof.Run

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The tile's number as an index of the tables. -/
abbrev tix (n : Fin 544) : S544.Idx := ix1 (n := 544) n

/-- The expert's, the row block's and the use's word of tile `n`. -/
def teW (n : Fin 544) : BitVec 32 := tbl m 0 (tix n)
def txW (n : Fin 544) : BitVec 32 := tbl m 1 (tix n)
def tvW (n : Fin 544) : BitVec 32 := tbl m 2 (tix n)

theorem coords_val : ∀ t : Fin grid0.N, (grid0.coords t 0).val = t.val := by decide +kernel

theorem off1_val (t : Fin grid0.N) : k0_off1 (grid0.coords t) = ![t.val] := by
  have ht : t.val < 544 := t.isLt
  show ![(BitVec.ofNat 32 (grid0.coords t 0).val).toNat] = _
  rw [coords_val, BitVec.toNat_ofNat, Nat.mod_eq_of_lt (by omega)]

theorem off2_val : ∀ t : Fin grid0.N, k0_off2 (grid0.coords t) 0 = t.val - 1 := by decide +kernel

/-! A word the body loads is the tile's entry of the table. -/

theorem word_te (c : Dev nD) (t : Fin grid0.N) :
    wordAt c teM (tbl m 0) (k0_off1 (grid0.coords t)) (k0_off1_inb (grid0.coords t)) = teW m t := by
  unfold teW
  refine congrArg (tbl m 0) (funext fun a => Fin.ext ?_)
  match a with
  | ⟨0, _⟩ => show k0_off1 (grid0.coords t) 0 + 1 * 0 = t.val; rw [off1_val]; rfl

theorem word_tv (c : Dev nD) (t : Fin grid0.N) :
    wordAt c tvM (tbl m 2) (k0_off3 (grid0.coords t)) (k0_off3_inb (grid0.coords t)) = tvW m t := by
  unfold tvW
  refine congrArg (tbl m 2) (funext fun a => Fin.ext ?_)
  match a with
  | ⟨0, _⟩ => show k0_off1 (grid0.coords t) 0 + 1 * 0 = t.val; rw [off1_val]; rfl

theorem word_tp (c : Dev nD) (t : Fin grid0.N) (n : Fin 544) (hn : n.val = t.val - 1) :
    wordAt c teM (tbl m 0) (k0_off2 (grid0.coords t)) (k0_off2_inb (grid0.coords t)) = teW m n := by
  unfold teW
  refine congrArg (tbl m 0) (funext fun a => Fin.ext ?_)
  match a with
  | ⟨0, _⟩ => show k0_off2 (grid0.coords t) 0 + 1 * 0 = n.val; rw [off2_val]; omega

/-- The index maps, on the tables found at the region's entry. -/
theorem ix_x (t : Fin grid0.N) : cc0_transform_0 k0_off1_inb numel1_S1 (tbl m) (grid0.coords t) = ![(txW m t).toNat, 0] := by
  have e : (tbl m).at 1 (Rect.unit (s := S544) ![(Scalar.indexCast (BitVec.ofNat 32 (grid0.coords t 0).val)).toNat] S1.size (k0_off1_inb (grid0.coords t))) numel1_S1 = txW m t := by
    unfold txW
    refine congrArg (tbl m 1) (funext fun a => Fin.ext ?_)
    match a with
    | ⟨0, _⟩ => show k0_off1 (grid0.coords t) 0 + 1 * 0 = t.val; rw [off1_val]; rfl
  unfold cc0_transform_0; dsimp only; rw [e]; rfl

theorem ix_w (t : Fin grid0.N) : cc0_transform_1 k0_off1_inb numel1_S1 (tbl m) (grid0.coords t) = ![(teW m t).toNat, 0, 0] := by
  have e : (tbl m).at 0 (Rect.unit (s := S544) ![(Scalar.indexCast (BitVec.ofNat 32 (grid0.coords t 0).val)).toNat] S1.size (k0_off1_inb (grid0.coords t))) numel1_S1 = teW m t := by
    unfold teW
    refine congrArg (tbl m 0) (funext fun a => Fin.ext ?_)
    match a with
    | ⟨0, _⟩ => show k0_off1 (grid0.coords t) 0 + 1 * 0 = t.val; rw [off1_val]; rfl
  unfold cc0_transform_1; dsimp only; rw [e]; rfl

/-- A block of one member of a stack, at the member its index map names. -/
theorem ix3_of_block {n0 n1 n2 k : ℕ} {ix : Fin 3 → ℕ} (e : ix = ![k, 0, 0]) (hk : k < n0) (j : (⟨3, ![1, n1, n2]⟩ : Shape).Idx)
    {i : (⟨3, ![n0, n1, n2]⟩ : Shape).Idx} (h0 : (i 0).val = ix 0 * 1 + 1 * (j 0).val) (h1 : (i 1).val = ix 1 * n1 + 1 * (j 1).val)
    (h2 : (i 2).val = ix 2 * n2 + 1 * (j 2).val) : i = ix3 (n0 := n0) (n1 := n1) (n2 := n2) ⟨k, hk⟩ (j 1) (j 2) := by
  have hj : (j 0).val < 1 := (j 0).isLt
  subst e
  refine funext fun a => Fin.ext ?_
  match a with
  | ⟨0, _⟩ => refine h0.trans ?_; show k * 1 + 1 * (j 0).val = k; omega
  | ⟨1, _⟩ => refine h1.trans ?_; show 0 * n1 + 1 * (j 1).val = (j 1).val; omega
  | ⟨2, _⟩ => refine h2.trans ?_; show 0 * n2 + 1 * (j 2).val = (j 2).val; omega

section blocks
variable (hO : Ok m)

include hO in
/-- The tables' words name blocks inside their arrays. -/
theorem te_lt (t : Fin grid0.N) : (teW m t).toNat < 128 := by
  obtain ⟨h, -⟩ := hO.2.1 (grid0.coords t)
  have := h 0
  rw [ix_w] at this
  have : ((teW m t).toNat + 1) * 1 ≤ 128 := this
  omega

include hO in
theorem tx_lt (t : Fin grid0.N) : (txW m t).toNat < 544 := by
  obtain ⟨h, -⟩ := hO.1 (grid0.coords t)
  have := h 0
  rw [ix_x] at this
  have : ((txW m t).toNat + 1) * 4096 ≤ 2228224 := this
  omega

theorem blk_x (c : Dev nD) (t : Fin (cfgM m hO).N) (j : S4096x128.Idx) :
    iblk m hO c 0 t j = V m c main_arg3 (ix2 (n0 := 2228224) (n1 := 128)
      ⟨(txW m t).toNat * 4096 + (j 0).val, by have := tx_lt m hO t; have := idx2_lt0 j; omega⟩ (j 1)) := by
  refine congrArg (V m c main_arg3) (funext fun a => Fin.ext ?_)
  have e := ix_x m t
  match a with
  | ⟨0, _⟩ =>
    show cc0_transform_0 k0_off1_inb numel1_S1 (tbl m) (grid0.coords t) 0 * 4096 + 1 * (j 0).val = _
    rw [e]; simp
  | ⟨1, _⟩ =>
    show cc0_transform_0 k0_off1_inb numel1_S1 (tbl m) (grid0.coords t) 1 * 128 + 1 * (j 1).val = _
    rw [e]; simp

theorem blk_w1 (c : Dev nD) (t : Fin (cfgM m hO).N) (j : S1x1024x2048.Idx) :
    iblk m hO c 1 t j = V m c main_arg4 (ix3 (n0 := 128) (n1 := 1024) (n2 := 2048) ⟨(teW m t).toNat, te_lt m hO t⟩ (j 1) (j 2)) :=
  congrArg (V m c main_arg4) (ix3_of_block (ix_w m t) _ j rfl rfl rfl)

theorem blk_b1 (c : Dev nD) (t : Fin (cfgM m hO).N) (j : S1x1x2048.Idx) :
    iblk m hO c 2 t j = V m c main_v0 (ix3 (n0 := 128) (n1 := 1) (n2 := 2048) ⟨(teW m t).toNat, te_lt m hO t⟩ (j 1) (j 2)) :=
  congrArg (V m c main_v0) (ix3_of_block (ix_w m t) _ j rfl rfl rfl)

theorem blk_w2 (c : Dev nD) (t : Fin (cfgM m hO).N) (j : S1x1024x1024.Idx) :
    iblk m hO c 3 t j = V m c main_arg6 (ix3 (n0 := 128) (n1 := 1024) (n2 := 1024) ⟨(teW m t).toNat, te_lt m hO t⟩ (j 1) (j 2)) :=
  congrArg (V m c main_arg6) (ix3_of_block (ix_w m t) _ j rfl rfl rfl)

theorem blk_b2 (c : Dev nD) (t : Fin (cfgM m hO).N) (j : S1x1x1024.Idx) :
    iblk m hO c 4 t j = V m c main_v1 (ix3 (n0 := 128) (n1 := 1) (n2 := 1024) ⟨(teW m t).toNat, te_lt m hO t⟩ (j 1) (j 2)) :=
  congrArg (V m c main_v1) (ix3_of_block (ix_w m t) _ j rfl rfl rfl)

end blocks

end Cert.KernelIdeal.Moe

end
-- ==== Proof.Frame.lean ====
/- The launch of the expert FFN over the whole table of tiles. Between points the two weight buffers hold the rounded
   weights of the tile before, so that a tile of the same expert finds its own there. -/
module

public import proofs.«01_k».proof.Proof.Blocks

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

/-! ## The body's conditions -/

theorem ne_ext (b : BitVec 1) : Scalar.cmpi .ne (Scalar.extui b : BitVec 32) 0#32 = b := by
  revert b; decide

theorem cond3_iff (v : BitVec 32) : k0_cond3 v = 1#1 ↔ v = 0#32 := by
  show Scalar.cmpi .ne (Scalar.extui (Scalar.cmpi .eq v 0#32) : BitVec 32) 0#32 = 1#1 ↔ _
  rw [ne_ext]
  show IntOp.cmpi .eq v 0#32 = 1#1 ↔ _
  rw [WordCmp.cmpi_eq_eq, WordCmp.ofBool_decide_eq_one_iff]

theorem cond2_iff (v : BitVec 32) : k0_cond2 v = 1#1 ↔ 0 < v.toInt := by
  show Scalar.cmpi .ne (Scalar.extui (Scalar.cmpi .sgt v 0#32) : BitVec 32) 0#32 = 1#1 ↔ _
  rw [ne_ext]
  show IntOp.cmpi .sgt v 0#32 = 1#1 ↔ _
  rw [WordCmp.cmpi_sgt_eq, WordCmp.ofBool_decide_eq_one_iff]
  exact Iff.rfl

theorem cond_or (v : BitVec 32) (h : 0 ≤ v.toInt) : k0_cond2 v = 1#1 ∨ k0_cond3 v = 1#1 := by
  rw [cond2_iff, cond3_iff]
  rcases h.lt_or_eq with h | h
  · exact .inl h
  · exact .inr (BitVec.eq_of_toInt_eq (h.symm.trans (by decide)))

/-- A tile whose weights are not rounded afresh is not the first, and has the expert of the tile before. -/
theorem of_not_reload (t : Fin grid0.N) (te tp : BitVec 32) (h : ¬ reload (grid0.coords t) te tp = 1#1) : t.val ≠ 0 ∧ te = tp := by
  unfold reload at h
  rw [ne_ext] at h
  have hc := coords_val t
  have ht : t.val < 544 := t.isLt
  replace h : ¬ IntOp.ori (IntOp.cmpi .eq (BitVec.ofNat 32 (grid0.coords t 0).val) 0#32) (IntOp.cmpi .ne te tp) = 1#1 := h
  rw [hc, WordCmp.cmpi_eq_eq, WordCmp.cmpi_ne_eq, WordCmp.ori_ofBool, WordCmp.ofBool_eq_one_iff] at h
  simp only [Bool.or_eq_true, decide_eq_true_eq, not_or, not_not] at h
  refine ⟨fun e => h.1 ?_, h.2⟩
  rw [e]

variable (m : (ℓ : Loc nD τ sig) → Buf (Elt F) ℓ) (ρ : Dev nD → PrngReg)

/-- What the launch needs of the tables: blocks inside the arrays, and no negative use word. -/
structure Good : Prop where
  ok : Ok m
  use : ∀ n : Fin 544, 0 ≤ (tvW m n).toInt

section launch
variable (hG : Good m)

/-- The rounded weights of tile `t`. -/
abbrev w1At (hO : Ok m) (c : Dev nD) (t : Fin (cfgM m hO).N) : Vec F S1024x2048 .bf16 := k0_pay1 (iblk m hO c 1 t)
abbrev w2At (hO : Ok m) (c : Dev nD) (t : Fin (cfgM m hO).N) : Vec F S1024x1024 .bf16 := k0_pay2 (iblk m hO c 3 t)

/-- Two tiles of one expert have the same weights. -/
theorem w_of_te (hO : Ok m) (c : Dev nD) (t t' : Fin (cfgM m hO).N) (h : teW m t = teW m t') :
    w1At m hO c t = w1At m hO c t' ∧ w2At m hO c t = w2At m hO c t' := by
  have e1 : (iblk m hO c 1 t : Vec F S1x1024x2048 .f32) = iblk m hO c 1 t' := funext fun j => by
    refine (blk_w1 m hO c t j).trans (.trans ?_ (blk_w1 m hO c t' j).symm)
    simp only [h]; rfl
  have e2 : (iblk m hO c 3 t : Vec F S1x1024x1024 .f32) = iblk m hO c 3 t' := funext fun j => by
    refine (blk_w2 m hO c t j).trans (.trans ?_ (blk_w2 m hO c t' j).symm)
    simp only [h]; rfl
  exact ⟨congrArg k0_pay1 e1, congrArg k0_pay2 e2⟩

/-- What holds between points: after the point before, the weight buffers hold that tile's rounded weights. -/
def inv (hO : Ok m) (c : Dev nD) (k : Fin ((cfgM m hO).N + 1)) : sProp 𝕄 :=
  iprop((∃ d, owns (c : Thread nD τ) xbM fullShare d)
    ∗ (∃ d1 d2, ⌜∀ t : Fin (cfgM m hO).N, t.val + 1 = k.val → d1 = w1At m hO c t ∧ d2 = w2At m hO c t⌝
        ∗ owns (c : Thread nD τ) w1M fullShare d1 ∗ owns (c : Thread nD τ) w2M fullShare d2)
    ∗ (∃ r, prngReg c r)
    ∗ (tbPt c teM (tbl m 0) ∗ tbPt c txM (tbl m 1) ∗ tbPt c tvM (tbl m 2)))

/-- What tile `t` leaves in its block. -/
def outAt (hO : Ok m) (c : Dev nD) (t : Fin (cfgM m hO).N) : Vec F S4096x128 .f32 :=
  tileOut (tvW m t) (iblk m hO c 0 t) (iblk m hO c 1 t) (iblk m hO c 2 t) (iblk m hO c 3 t) (iblk m hO c 4 t)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ k := inv m hO c k
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; rfl
theorem after1 (hO : Ok m) (c : Dev nD) (t : Fin (cfgM m hO).N) : (dats m hO 0 c).after 1 t = iblk m hO c 1 t := by dsimp only [dats]; rfl
theorem after2 (hO : Ok m) (c : Dev nD) (t : Fin (cfgM m hO).N) : (dats m hO 0 c).after 2 t = iblk m hO c 2 t := by dsimp only [dats]; rfl
theorem after3 (hO : Ok m) (c : Dev nD) (t : Fin (cfgM m hO).N) : (dats m hO 0 c).after 3 t = iblk m hO c 3 t := by dsimp only [dats]; rfl
theorem after4 (hO : Ok m) (c : Dev nD) (t : Fin (cfgM m hO).N) : (dats m hO 0 c).after 4 t = iblk m hO c 4 t := by dsimp only [dats]; rfl
theorem after5 (hO : Ok m) (c : Dev nD) (t : Fin (cfgM m hO).N) : (dats m hO 0 c).after 5 t = outAt m hO c t := by dsimp only [dats]; rfl

theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d
theorem before4 (hO : Ok m) (c : Dev nD) (t : Fin (cfgM m hO).N) (d) : (dats m hO 0 c).before 4 t d = iblk m hO c 4 t :=
  before4_of m hO (dats m hO 0 c) (A_eq m hO c 4) (after4 m hO c) t d

/-! ## The body's obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

/-- The weight buffers at a tile that does not round its weights: the tile before left this tile's. -/
theorem kept (hO : Ok m) (c : Dev nD) (t : Fin (cfgM m hO).N) (d1 : Vec F S1024x2048 .bf16) (d2 : Vec F S1024x1024 .bf16)
    (hd : ∀ t' : Fin (cfgM m hO).N, t'.val + 1 = t.castSucc.val → d1 = w1At m hO c t' ∧ d2 = w2At m hO c t')
    (h : ¬ reload (grid0.coords t) (wordAt c teM (tbl m 0) (k0_off1 (grid0.coords t)) (k0_off1_inb (grid0.coords t)))
      (wordAt c teM (tbl m 0) (k0_off2 (grid0.coords t)) (k0_off2_inb (grid0.coords t))) = 1#1) :
    d1 = w1At m hO c t ∧ d2 = w2At m hO c t := by
  obtain ⟨h0, he⟩ := of_not_reload t _ _ h
  have ht : t.val < 544 := t.isLt
  let t' : Fin (cfgM m hO).N := ⟨t.val - 1, Nat.lt_of_le_of_lt (Nat.sub_le _ _) t.isLt⟩
  rw [word_te, word_tp m c t t' rfl] at he
  obtain ⟨e1, e2⟩ := hd t' (by show t.val - 1 + 1 = t.val; omega)
  obtain ⟨g1, g2⟩ := w_of_te m hO c t' t he.symm
  exact ⟨e1.trans g1, e2.trans g2⟩

set_option maxHeartbeats 800000 in
theorem sound_body (c : Dev nD) (t : Fin (cfgM m hG.ok).N) :
    bodyPre m hG.ok c t ⊢ wp frame (wpE (defs₀ (F := F)) Variants.none c none) Set.univ (bodyAt m hG.ok t) (fun _ => bodyPost m hG.ok c t) := by
  unfold bodyPre bodyPost bodyAt
  simp only [before0, before1, before2, before3, before4]
  rw [show (dats m hG.ok 0 c).Φ t.castSucc = inv m hG.ok c t.castSucc from rfl, show (dats m hG.ok 0 c).Φ t.succ = inv m hG.ok c t.succ from rfl,
    show (dats m hG.ok 0 c).owesAt () t.succ = (dats m hG.ok 0 c).owesAt () t.castSucc from rfl,
    after0, after1, after2, after3, after4, after5]
  unfold inv
  iintro ⟨⟨HX, ⟨%d1, %d2, %hd, HS1, HS2⟩, Hg, HT0, HT1, HT2⟩, Ho, ⟨%e0, H0⟩, ⟨%e1, H1⟩, ⟨%e2, H2⟩, ⟨%e3, H3⟩, ⟨%e4, H4⟩, ⟨%e5, H5⟩⟩
  iapply (run_tile c (grid0.coords t) _ _ _ _ _ _ _ _ _ _ _ _ _ _ _ _ _ _ (iblk m hG.ok c 0 t) (iblk m hG.ok c 1 t) (iblk m hG.ok c 2 t)
    (iblk m hG.ok c 3 t) (iblk m hG.ok c 4 t) (tbl m 0) (tbl m 2) d1 d2 (kept m hG.ok c t d1 d2 hd)
    (by rw [word_tv]; exact cond_or _ (hG.use t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HX]; · iexact HX
  isplitl [HS1]; · iexact HS1
  isplitl [HS2]; · iexact HS2
  isplitl [HT0]; · iexact HT0
  isplitl [HT2]; · iexact HT2
  rw [word_tv]
  iintro ⟨H0, H1, H2, H3, H4, H5, HX, HS1, HS2, HT0, HT2⟩
  isplitl [HX HS1 HS2 Hg HT0 HT1 HT2]
  · isplitl [HX]; · iexact HX
    isplitl [HS1 HS2]
    · iexists _, _
      isplitr; swap
      · isplitl [HS1]; · iexact HS1
        iexact HS2
      ipureintro
      intro t' ht'
      obtain rfl : t' = t := Fin.ext (Nat.succ.inj ht')
      exact ⟨rfl, rfl⟩
    isplitl [Hg]; · iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's block moves at every point, so every point writes it back. -/
theorem flush5 (hO : Ok m) : ∀ t : Fin (cfgM m hO).N, ((cfgM m hO).win 5).flush t = true :=
  (fun t => (Pipeline.Window.flushOf_reads cc0_transform_5 reads0_5 hreads0_5 0 (by decide) (by decide)
    (Pipeline.Window.sep_of_coord cc0_transform_5 0 0 (fun _ => rfl) (by decide)) (P := 1) (m := 0) (by decide) rfl t).mpr (Nat.mod_one _) :
    ∀ t : Fin grid0.N, Pipeline.Window.flushOf grid0 true cc0_transform_5 t = true)

theorem body_obligation (c : Dev nD) : BodyObligation (dats (F := F) m hG.ok 0 c) (defs₀ (F := F)) Variants.none () Set.univ := fun t => by
  rw [bigSep_W0, bigSep_W0, defs₀_row m hG.ok]
  refine triple_restated (sound_body m hG c t) rfl .rfl fun _ => ?_
  unfold bodyPost
  refine sep_mono .rfl (sep_mono .rfl (sep_mono .rfl (sep_mono .rfl (sep_mono .rfl (sep_mono .rfl (sep_mono .rfl ?_))))))
  show owns (c : Thread nD τ) (ms5 m hG.ok t) fullShare ((dats m hG.ok 0 c).after 5 t) ⊢
    match (cfgM m hG.ok).idle 5 ((cfgM m hG.ok).grid.coords t) with
    | true => match ((cfgM m hG.ok).win 5).flush t with
      | false => iprop(∃ d, owns (c : Thread nD τ) (ms5 m hG.ok t) fullShare ((dats m hG.ok 0 c).before 5 t d))
      | true => owns (c : Thread nD τ) (ms5 m hG.ok t) fullShare ((dats m hG.ok 0 c).after 5 t)
    | false => owns (c : Thread nD τ) (ms5 m hG.ok t) fullShare ((dats m hG.ok 0 c).after 5 t)
  rw [flush5 m hG.ok t]
  cases (cfgM m hG.ok).idle 5 ((cfgM m hG.ok).grid.coords t) <;> exact .rfl

/-! ## The run -/

theorem inv_in (hO : Ok m) (c : Dev nD) : iprop(Pipeline.ΦA spec0 c ∗ Pipeline.ΦT pre0 (tbl m) c) ⊢ inv m hO c 0 := by
  rw [PhiT_eq, PhiA_eq]; unfold inv
  iintro ⟨⟨⟨HX, ⟨%d1, HS1⟩, ⟨%d2, HS2⟩⟩, Hg⟩, HT⟩
  isplitl [HX]; · iexact HX
  isplitl [HS1 HS2]
  · iexists d1, d2
    isplitr
    · ipureintro; intro t ht; exact absurd ht (Nat.succ_ne_zero _)
    isplitl [HS1]; · iexact HS1
    iexact HS2
  isplitl [Hg]; · iexact Hg
  iexact HT

theorem inv_out (hO : Ok m) (c : Dev nD) : inv m hO c (Fin.last (cfgM m hO).N) ⊢ Pipeline.ΦA spec0 c := by
  rw [PhiA_eq]; unfold inv
  iintro ⟨HX, ⟨%d1, %d2, -, HS1, HS2⟩, Hg, -⟩
  isplitl [HX HS1 HS2]
  · isplitl [HX]; · iexact HX
    isplitl [HS1]; · iexists _; iexact HS1
    iexists _; iexact HS2
  iexact Hg

set_option backward.isDefEq.respectTransparency.types false in
theorem run_main : θ_run defs (onTc (τ := τ) (main (F := F))) (s₀ m ρ)
    (fun r => (Pipeline.FramePost (Pipeline.pin pcfgs fun _ => adm m hG.ok) (dats m hG.ok) 0 (V m)) r ∧ r.2.sem = fun _ => 0) :=
  Pipeline.θ_run_frameP_track (Q' := _) pcfgs (fun _ => adm m hG.ok) (dats m hG.ok) (0 : Fin 1) launch0 defs₀ Variants.none m ρ main
    (hbody := fun c => (body_obligation m hG c).loose) (hshare := fun c => (dats m hG.ok 0 c).share_full fun _ => rfl)
    (howed := fun _ _ => rfl) (V := V m) (hmain := hmain m Variants.none) (hA := A_eq m hG.ok) (hpf := V_pre m)
    (hin := fun c => inv_in m hG.ok c) (hout := fun c => inv_out m hG.ok c)

/-- The arguments are as launched. -/
def ArgsKept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)

theorem args_kept {r} (h : Pipeline.FramePost (Pipeline.pin pcfgs fun _ => adm m hG.ok) (dats m hG.ok) 0 (V m) r) (c : Dev nD) :
    ArgsKept m r.2.mem c := by
  have kept : ∀ b : Ref sig .tc, b ∈ Pipeline.restRefs sig spec0 → b ≠ main_v0 → b ≠ main_v1 →
      r.2.mem ((c.tc : Thread nD τ).loc b) = m ((c.tc : Thread nD τ).loc b) :=
    fun b hb h0 h1 => ((h c).2 b hb).trans (V_kept m c b h0 h1)
  have staged : ∀ w : Fin (cfgM m hG.ok).W, ((cfgM m hG.ok).win w).isOut = false →
      r.2.mem ((c.tc : Thread nD τ).loc (Pipeline.arrRef spec0 w)) = V m c (Pipeline.arrRef spec0 w) :=
    fun w hw => ((h c).1 w).trans (((dats m hG.ok 0 c).arrAt_in w hw _).trans (A_eq m hG.ok c w))
  exact ⟨kept main_arg0 (by decide) (by decide) (by decide), kept main_arg1 (by decide) (by decide) (by decide),
    kept main_arg2 (by decide) (by decide) (by decide), (staged 0 rfl).trans (V_kept m c main_arg3 (by decide) (by decide)),
    (staged 1 rfl).trans (V_kept m c main_arg4 (by decide) (by decide)),
    kept main_arg5 (by decide) (by decide) (by decide), (staged 3 rfl).trans (V_kept m c main_arg6 (by decide) (by decide)),
    kept main_arg7 (by decide) (by decide) (by decide)⟩

/-- The frame: the arguments end as launched, and every counter at zero. -/
theorem frame (hG : Good m) : θ_run defs (onTc (τ := τ) (main (F := F))) ⟨m, fun _ => 0, ρ⟩
    (fun r => (∀ c : Dev nD, ArgsKept m r.2.mem c) ∧ r.2.sem = fun _ => 0) :=
  (θ_run defs _ _).mono (fun _ hr => ⟨args_kept m hG hr.1, hr.2⟩) (run_main m ρ hG)

end launch

end Cert.KernelIdeal.Moe

end
-- ==== Proof.Tables.lean ====
/- The precondition read as facts about the tables' words, and what the launch needs of them. -/
module

public import proofs.«01_k».proof.Proof.Frame
public import proofs.«01_k».proof.Proof.Gen.Pre_tables_in_range
public import Idealize.ShloMosaic.Lib.ReduceAll
public import Idealize.ShloMosaic.Lib.Pipeline.Covers

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

/-- The precondition at one tile: the expert's and the row block's words in range, the use word not negative. -/
theorem words_of_pre {a0 a1 a2 : IVec S544 32} {a3 : FVec F S2228224x128 .f32} {a4 : FVec F S128x1024x2048 .f32}
    {a5 : FVec F S128x2048 .f32} {a6 : FVec F S128x1024x1024 .f32} {a7 : FVec F S128x1024 .f32}
    (h : Cert.Pre_tables_in_range.fn (F := F) a0 a1 a2 a3 a4 a5 a6 a7 = fun _ => 1#1) (n : S544.Idx) :
    (0 ≤ (a0 n).toInt ∧ (a0 n).toInt < 128) ∧ (0 ≤ (a1 n).toInt ∧ (a1 n).toInt < 544) ∧ 0 ≤ (a2 n).toInt := by
  haveI : Subsingleton Cert.Pre_tables_in_range.S_.Idx := ⟨fun a b => funext fun k => k.elim0⟩
  have e := Host.reduce_andi_all _ _ _ _ _ (congrFun h (fun k => k.elim0)) n
  replace e : IntOp.andi (IntOp.andi (IntOp.andi (IntOp.andi (IntOp.cmpi .sge (a0 n) 0#32) (IntOp.cmpi .slt (a0 n) 128#32))
    (IntOp.cmpi .sge (a1 n) 0#32)) (IntOp.cmpi .slt (a1 n) 544#32)) (IntOp.cmpi .sge (a2 n) 0#32) = 1#1 := e
  rw [WordCmp.cmpi_sge_eq, WordCmp.cmpi_sge_eq, WordCmp.cmpi_sge_eq, WordCmp.cmpi_slt_eq, WordCmp.cmpi_slt_eq,
    WordCmp.andi_ofBool, WordCmp.andi_ofBool, WordCmp.andi_ofBool, WordCmp.andi_ofBool, WordCmp.ofBool_eq_one_iff] at e
  simp only [Bool.and_eq_true, decide_eq_true_eq] at e
  obtain ⟨⟨⟨⟨h0, h1⟩, h2⟩, h3⟩, h4⟩ := e
  exact ⟨⟨h0, h1⟩, ⟨h2, h3⟩, h4⟩

theorem toNat_lt_of_toInt {w : BitVec 32} {k : ℕ} (h0 : 0 ≤ w.toInt) (h1 : w.toInt < (k : ℤ)) : w.toNat < k := by
  rw [BitVec.toInt_eq_toNat_cond] at h0 h1
  have := w.isLt
  split at h0 <;> omega

variable (m : (ℓ : Loc nD τ sig) → Buf (Elt F) ℓ)

/-- A table is found as launched. -/
theorem teW_eq (n : Fin 544) : teW m n = m (((0 : Dev nD).tc : Thread nD τ).loc main_arg0) (tix n) :=
  congrFun (V_kept m 0 main_arg0 (by decide) (by decide)) (tix n)
theorem txW_eq (n : Fin 544) : txW m n = m (((0 : Dev nD).tc : Thread nD τ).loc main_arg1) (tix n) :=
  congrFun (V_kept m 0 main_arg1 (by decide) (by decide)) (tix n)
theorem tvW_eq (n : Fin 544) : tvW m n = m (((0 : Dev nD).tc : Thread nD τ).loc main_arg2) (tix n) :=
  congrFun (V_kept m 0 main_arg2 (by decide) (by decide)) (tix n)

/-- A block of the row array or of one member of a stack, named by a word in range, is inside its array. -/
theorem good_of_words (hte : ∀ n, (teW m n).toNat < 128) (htx : ∀ n, (txW m n).toNat < 544) (htv : ∀ n, 0 ≤ (tvW m n).toInt) : Good m := by
  refine ⟨⟨fun i => ⟨?_, .inl rfl⟩, fun i => ⟨?_, .inl rfl⟩, fun i => ⟨?_, .inl rfl⟩, fun i => ⟨?_, .inl rfl⟩, fun i => ⟨?_, .inl rfl⟩⟩, htv⟩ <;>
    obtain ⟨t, rfl⟩ := Pipeline.Grid.coords_surjective grid0 i <;> intro a
  · rw [ix_x]; have h := htx t
    match a with
    | ⟨0, _⟩ => show ((txW m t).toNat + 1) * 4096 ≤ 2228224; omega
    | ⟨1, _⟩ => show (0 + 1) * 128 ≤ 128; omega
  · rw [ix_w]; have h := hte t
    match a with
    | ⟨0, _⟩ => show ((teW m t).toNat + 1) * 1 ≤ 128; omega
    | ⟨1, _⟩ => show (0 + 1) * 1024 ≤ 1024; omega
    | ⟨2, _⟩ => show (0 + 1) * 2048 ≤ 2048; omega
  · rw [show cc0_transform_2 k0_off1_inb numel1_S1 (tbl m) (grid0.coords t) = ![(teW m t).toNat, 0, 0] from ix_w m t]; have h := hte t
    match a with
    | ⟨0, _⟩ => show ((teW m t).toNat + 1) * 1 ≤ 128; omega
    | ⟨1, _⟩ => show (0 + 1) * 1 ≤ 1; omega
    | ⟨2, _⟩ => show (0 + 1) * 2048 ≤ 2048; omega
  · rw [show cc0_transform_3 k0_off1_inb numel1_S1 (tbl m) (grid0.coords t) = ![(teW m t).toNat, 0, 0] from ix_w m t]; have h := hte t
    match a with
    | ⟨0, _⟩ => show ((teW m t).toNat + 1) * 1 ≤ 128; omega
    | ⟨1, _⟩ => show (0 + 1) * 1024 ≤ 1024; omega
    | ⟨2, _⟩ => show (0 + 1) * 1024 ≤ 1024; omega
  · rw [show cc0_transform_4 k0_off1_inb numel1_S1 (tbl m) (grid0.coords t) = ![(teW m t).toNat, 0, 0] from ix_w m t]; have h := hte t
    match a with
    | ⟨0, _⟩ => show ((teW m t).toNat + 1) * 1 ≤ 128; omega
    | ⟨1, _⟩ => show (0 + 1) * 1 ≤ 1; omega
    | ⟨2, _⟩ => show (0 + 1) * 1024 ≤ 1024; omega

/-- The precondition on the launch memory. -/
def TablesOk : Prop := ∀ c : Dev nD, Cert.Pre_tables_in_range.fn (F := F)
  (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) = fun _ => 1#1

theorem good_of_pre (h : TablesOk m) : Good m := by
  have hw := fun n : Fin 544 => words_of_pre (h 0) (tix n)
  refine good_of_words m (fun n => ?_) (fun n => ?_) (fun n => ?_)
  · rw [teW_eq]; exact toNat_lt_of_toInt (hw n).1.1 (hw n).1.2
  · rw [txW_eq]; exact toNat_lt_of_toInt (hw n).2.1.1 (hw n).2.1.2
  · rw [tvW_eq]; exact (hw n).2.2

end Cert.KernelIdeal.Moe

end
-- ==== Proof.Spec.lean ====
/- What one row of the layer's routed FFN is over the extended reals, and that the kernel's tile computes it. -/
module

public import proofs.«01_k».proof.Proof.Rows
public import Idealize.ShloMosaic.Lib.Pointwise

@[expose] public section

set_option maxRecDepth 16384

noncomputable section

namespace Cert.KernelIdeal.Moe

open Idealize.ShloMosaic Cert.KernelIdeal.Gen

/-- The gated activation of one hidden unit: the gate capped at 7, the linear part clipped to [-7, 7]. -/
def glu (g u : EReal) : EReal :=
  min g (Ideal.ofBits .f32 0x40E00000#32)
      * Ideal.logistic (Ideal.ofBits .f32 0x3FD9DB23#32 * min g (Ideal.ofBits .f32 0x40E00000#32))
    * (min (Ideal.ofBits .f32 0x40E00000#32) (max (Ideal.ofBits .f32 0xC0E00000#32) u) + 1)

/-- One row through one expert: up to twice 1024 hidden units, the gated activation, down to 1024. -/
def ffnRow (x : Fin 1024 → EReal) (w1 : Fin 1024 → Fin 2048 → EReal) (b1 : Fin 2048 → EReal)
    (w2 : Fin 1024 → Fin 1024 → EReal) (b2 : Fin 1024 → EReal) (d : Fin 1024) : EReal :=
  (∑ f : Fin 1024, glu ((∑ c, w1 c ⟨f.val, by omega⟩ * x c) + b1 ⟨f.val, by omega⟩)
      ((∑ c, w1 c ⟨1024 + f.val, by omega⟩ * x c) + b1 ⟨1024 + f.val, by omega⟩) * w2 f d) + b2 d

/-- The layer's routed FFN at one element. Line `8 q + s` of the row arrays is columns `128 s … 128 s + 127` of row `q`,
    and row `q` is of tile `q / 512`. A tile in use takes its rows from the row tile its table names, through the expert
    its table names; a tile not in use is zero. (The two remainders keep the definition total: the words are in range.) -/
def moeOut (te tb tv : IVec S544 32) (x : FVec Ideal S2228224x128 .f32) (w1 : FVec Ideal S128x1024x2048 .f32)
    (b1 : FVec Ideal S128x2048 .f32) (w2 : FVec Ideal S128x1024x1024 .f32) (b2 : FVec Ideal S128x1024 .f32)
    (r : Fin 2228224) (l : Fin 128) : EReal :=
  let n : Fin 544 := ⟨r.val / 8 / 512, by omega⟩
  let e : Fin 128 := ⟨(te (ix1 n)).toNat % 128, Nat.mod_lt _ (by decide)⟩
  if 0 < (tv (ix1 n)).toInt then
    ffnRow (fun k => x (ix2 ⟨(tb (ix1 n)).toNat % 544 * 4096 + r.val / 8 % 512 * 8 + k.val / 128, by omega⟩
          ⟨k.val % 128, by omega⟩))
      (fun k f => w1 (ix3 e k f)) (fun f => b1 (ix2 e f)) (fun f d => w2 (ix3 e f d)) (fun d => b2 (ix2 e d))
      ⟨r.val % 8 * 128 + l.val, by omega⟩
  else 0

theorem pay_row (x : FVec Ideal S512x1024 .bf16) (w1 : Vec Ideal S1x1024x2048 .f32) (b1 : Vec Ideal S1x1x2048 .f32)
    (w2 : Vec Ideal S1x1024x1024 .f32) (b2 : Vec Ideal S1x1x1024 .f32) (r : Fin 512) (d : Fin 1024) :
    k0_pay3 (k0_pay21 x (k0_pay1 w1) b1) (k0_pay2 w2) (constant S512x1024 .f32 0x00000000#32) b2 (ix2 r d)
      = ffnRow (fun c => x (ix2 r c)) (fun c f => w1 (ix3 0 c f)) (fun f => b1 (ix3 0 0 f))
          (fun f e => w2 (ix3 0 f e)) (fun e => b2 (ix3 0 0 e)) d := by
  pointwise [k0_pay3, k0_pay21, k0_pay1, k0_pay2, ffnRow, glu]
  simp only [mul_comm (w1 _) _]

end Cert.KernelIdeal.Moe
end
-- ==== Proof.Value.lean ====
/- The kernel's result over the extended reals: every tile of the output array is the routed FFN. -/
module

public import proofs.«01_k».proof.Proof.Frame
public import proofs.«01_k».proof.Proof.Tables
public import proofs.«01_k».proof.Proof.Spec
public import Idealize.ShloMosaic.Lib.Claim

@[expose] public section

set_option maxRecDepth 16384

noncomputable section

namespace Cert.KernelIdeal.Moe

open Idealize.ShloMosaic Idealize.ShloMosaic.TcCoe Idealize.SL.Sem
open Cert.KernelIdeal.Gen

variable (m : (ℓ : Loc nD τ sig) → Buf (Elt Ideal) ℓ)

/-- The reshaped biases, by their arguments. -/
theorem V_b1 (e : Fin 128) (f : Fin 2048) :
    V m 0 main_v0 (ix3 e (0 : Fin 1) f) = m (((0 : Dev nD).tc : Thread nD τ).loc main_arg5) (ix2 e f) := by
  entry_read
  pointwise

theorem V_b2 (e : Fin 128) (f : Fin 1024) :
    V m 0 main_v1 (ix3 e (0 : Fin 1) f) = m (((0 : Dev nD).tc : Thread nD τ).loc main_arg7) (ix2 e f) := by
  entry_read
  pointwise

/-- What the launch's arguments make of the routed FFN. -/
def kernelOut (r : Fin 2228224) (l : Fin 128) : EReal :=
  moeOut (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3))
    (m (((0 : Dev nD).tc : Thread nD τ).loc main_arg4)) (m (((0 : Dev nD).tc : Thread nD τ).loc main_arg5))
    (m (((0 : Dev nD).tc : Thread nD τ).loc main_arg6)) (m (((0 : Dev nD).tc : Thread nD τ).loc main_arg7)) r l

theorem ffnRow_congr {x x' : Fin 1024 → EReal} {w1 w1' : Fin 1024 → Fin 2048 → EReal} {b1 b1' : Fin 2048 → EReal}
    {w2 w2' : Fin 1024 → Fin 1024 → EReal} {b2 b2' : Fin 1024 → EReal} (hx : ∀ k, x k = x' k) (h1 : ∀ k f, w1 k f = w1' k f)
    (hb1 : ∀ f, b1 f = b1' f) (h2 : ∀ f d, w2 f d = w2' f d) (hb2 : ∀ d, b2 d = b2' d) (d : Fin 1024) :
    ffnRow x w1 b1 w2 b2 d = ffnRow x' w1' b1' w2' b2' d := by
  rw [funext hx, funext fun k => funext (h1 k), funext hb1, funext fun k => funext (h2 k), funext hb2]

/-- The same at tile `n`'s line `p`, by the tile's words. -/
theorem kernelOut_tile (hO : Ok m) (n : Fin 544) (p : Fin 4096) (l : Fin 128) :
    kernelOut m ⟨n.val * 4096 + p.val, by omega⟩ l
      = if 0 < (tvW m n).toInt then
          ffnRow (fun k => m (((0 : Dev nD).tc : Thread nD τ).loc main_arg3) (ix2 ⟨(txW m n).toNat * 4096 + (8 * (p.val / 8) + k.val / 128),
                by have := tx_lt m hO n; omega⟩ ⟨k.val % 128, Nat.mod_lt _ (by decide)⟩))
            (fun k f => m (((0 : Dev nD).tc : Thread nD τ).loc main_arg4) (ix3 ⟨(teW m n).toNat, te_lt m hO n⟩ k f))
            (fun f => m (((0 : Dev nD).tc : Thread nD τ).loc main_arg5) (ix2 ⟨(teW m n).toNat, te_lt m hO n⟩ f))
            (fun f d => m (((0 : Dev nD).tc : Thread nD τ).loc main_arg6) (ix3 ⟨(teW m n).toNat, te_lt m hO n⟩ f d))
            (fun d => m (((0 : Dev nD).tc : Thread nD τ).loc main_arg7) (ix2 ⟨(teW m n).toNat, te_lt m hO n⟩ d))
            ⟨p.val % 8 * 128 + l.val, by omega⟩
        else 0 := by
  have hn : (⟨(n.val * 4096 + p.val) / 8 / 512, by omega⟩ : Fin 544) = n := Fin.ext (by simp only; omega)
  have hp : (n.val * 4096 + p.val) / 8 % 512 * 8 = 8 * (p.val / 8) := by omega
  have hd : (n.val * 4096 + p.val) % 8 = p.val % 8 := by omega
  unfold kernelOut moeOut
  simp only [hn, hp, hd]
  have h0 : m (((0 : Dev nD).tc : Thread nD τ).loc main_arg0) (ix1 n) = teW m n := (teW_eq m n).symm
  have h1 : m (((0 : Dev nD).tc : Thread nD τ).loc main_arg1) (ix1 n) = txW m n := (txW_eq m n).symm
  have h2 : m (((0 : Dev nD).tc : Thread nD τ).loc main_arg2) (ix1 n) = tvW m n := (tvW_eq m n).symm
  have e0 := Nat.mod_eq_of_lt (te_lt m hO n)
  have e1 := Nat.mod_eq_of_lt (tx_lt m hO n)
  simp only [h0, h1, h2, e0, e1, Nat.add_assoc]

/-- What the body leaves in the output block of tile `n`. -/
theorem outAt_eq (hG : Good m) (n : Fin (cfgM m hG.ok).N) (p : Fin 4096) (l : Fin 128) :
    outAt m hG.ok 0 n (ix2 p l) = kernelOut m ⟨n.val * 4096 + p.val, by have h : n.val < 544 := n.isLt; omega⟩ l := by
  refine Eq.trans ?_ (kernelOut_tile m hG.ok n p l).symm
  unfold outAt tileOut
  have hv := hG.use n
  by_cases h : 0 < (tvW m n).toInt
  · rw [if_neg (fun h' => absurd h (by rw [(cond3_iff _).mp h']; decide)), if_pos h]
    unfold tileFfn
    refine (pay_row _ _ _ _ _ ⟨p.val / 8, by omega⟩ ⟨p.val % 8 * 128 + l.val, by omega⟩).trans ?_
    refine ffnRow_congr (fun k => ?_) (fun k f => ?_) (fun f => ?_) (fun f d => ?_) (fun d => ?_) _
    · exact (blk_x m hG.ok 0 n _).trans (congrFun (V_kept m 0 main_arg3 (by decide) (by decide)) _)
    · exact (blk_w1 m hG.ok 0 n _).trans (congrFun (V_kept m 0 main_arg4 (by decide) (by decide)) _)
    · exact (blk_b1 m hG.ok 0 n _).trans (V_b1 m _ f)
    · exact (blk_w2 m hG.ok 0 n _).trans (congrFun (V_kept m 0 main_arg6 (by decide) (by decide)) _)
    · exact (blk_b2 m hG.ok 0 n _).trans (V_b2 m _ d)
  · rw [if_pos ((cond3_iff _).mpr (BitVec.eq_of_toInt_eq (by simp; omega))), if_neg h]
    pointwise [k0_pay12]

theorem ix_y : ∀ t : Fin grid0.N, cc0_transform_5 (grid0.coords t) 0 = t.val ∧ cc0_transform_5 (grid0.coords t) 1 = 0 := by decide +kernel

/-- The output array at the end: tile after tile, the routed FFN. -/
theorem arr_eq (hG : Good m) : (dats m hG.ok 0 0).arrAt 5 (cfgM m hG.ok).N = (fun j => kernelOut m (j 0) (j 1) : Vec Ideal S2228224x128 .f32) := by
  refine Pipeline.Dat.arrAt_eq_of_cover _ 5 _ (fun t _ => funext fun (y : S4096x128.Idx) => ?_) fun (i : S2228224x128.Idx) => ?_
  · have hy0 : (y 0).val < 4096 := (y 0).isLt
    have hy1 : (y 1).val < 128 := (y 1).isLt
    have ht : t.val < 544 := t.isLt
    refine Eq.trans ?_ ((outAt_eq m hG t ⟨(y 0).val, hy0⟩ ⟨(y 1).val, hy1⟩).trans ?_)
    · refine (congrFun (after5 m hG.ok 0 t) _).trans (congrArg (outAt m hG.ok 0 t) (funext fun a => ?_))
      match a with
      | ⟨0, _⟩ => rfl
      | ⟨1, _⟩ => rfl
    · refine congrArg₂ (kernelOut m) (Fin.ext ?_) (Fin.ext ?_)
      · show t.val * 4096 + (y 0).val = cc0_transform_5 (grid0.coords t) 0 * 4096 + 1 * (y 0).val
        rw [(ix_y t).1]; omega
      · show (y 1).val = cc0_transform_5 (grid0.coords t) 1 * 128 + 1 * (y 1).val
        rw [(ix_y t).2]; omega
  · have h0 : (i 0).val < 2228224 := (i 0).isLt
    have h1 : (i 1).val < 128 := (i 1).isLt
    have ht : (i 0).val / 4096 < grid0.N := show (i 0).val / 4096 < 544 by omega
    refine ⟨⟨(i 0).val / 4096, ht⟩, flush5 m hG.ok _, ?_⟩
    erw [View.set_slice_whole, Rect.mem_set_unit]
    intro a
    have e := ix_y ⟨(i 0).val / 4096, ht⟩
    match a with
    | ⟨0, _⟩ =>
      show cc0_transform_5 (grid0.coords ⟨(i 0).val / 4096, ht⟩) 0 * 4096 ≤ (i 0).val
        ∧ (i 0).val < cc0_transform_5 (grid0.coords ⟨(i 0).val / 4096, ht⟩) 0 * 4096 + 4096
      rw [e.1]; simp only; omega
    | ⟨1, _⟩ =>
      show cc0_transform_5 (grid0.coords ⟨(i 0).val / 4096, ht⟩) 1 * 128 ≤ (i 1).val
        ∧ (i 1).val < cc0_transform_5 (grid0.coords ⟨(i 0).val / 4096, ht⟩) 1 * 128 + 128
      rw [e.2]; omega

theorem run_value (ρ : Dev nD → PrngReg) (hG : Good m) : θ_run defs (onTc (τ := τ) (main (F := Ideal))) ⟨m, fun _ => 0, ρ⟩
    (fun r => ∀ c : Dev nD,
      r.2.mem ((c.tc : Thread nD τ).loc main_v2) = (fun j => kernelOut m (j 0) (j 1) : Vec Ideal S2228224x128 .f32)
      ∧ ArgsKept m r.2.mem c) :=
  (θ_run defs _ _).mono (fun r hr c => ⟨by
    obtain rfl : c = 0 := Subsingleton.elim c 0
    exact ((hr.1 0).1 5).trans (arr_eq m hG), args_kept m hG hr.1 c⟩) (run_main m ρ hG)

end Cert.KernelIdeal.Moe
end
-- ==== Proof.Reference.lean ====
/- The reference's result, element by element. -/
module

public import proofs.«01_k».proof.Proof.Gen.ReferenceIdeal.Run
public import proofs.«01_k».proof.Proof.Spec
public import Idealize.ShloMosaic.Lib.WordCmp
public import Idealize.ShloMosaic.Lib.Tactic.CleanTypes

@[expose] public section

set_option maxRecDepth 16384

noncomputable section

namespace Cert.ReferenceIdeal.Moe

open Idealize.ShloMosaic Idealize.ShloMosaic.TcCoe Idealize.SL.Sem
open Cert.ReferenceIdeal Cert.ReferenceIdeal.Gen Cert.ReferenceIdeal.Value
open Cert.KernelIdeal.Moe (glu ffnRow moeOut)

abbrev tileGather := gather_S544x512x1024_S544x1_S544x512x1024_12_0_n_n_0_1_15121024

/-- The gather of whole row tiles, read at an element: the tile its index names, read signed and clamped. -/
theorem gather_tiles {α : Type} (x : S544x512x1024.Idx → α) (idx : IVec S544x1 32) (y : S544x512x1024.Idx) :
    Host.gather tileGather x idx y = x (ix3 ⟨min (idx (ix2 (y 0) 0)).toInt.toNat 543, by omega⟩ (y 1) (y 2)) := by
  unfold Host.gather
  congr 1
  funext a
  refine Fin.ext ?_
  show tileGather.start y idx a + tileGather.batchCoord y a + tileGather.offCoord y a = _
  rw [GatherDims.batchCoord_eq_zero _ _ _ (show a ∉ ([] : List (Fin 3)) from List.not_mem_nil)]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ tileGather.startIndexMap from List.mem_singleton.mpr rfl)]
    have hsi : tileGather.siIdx y ⟨List.idxOf (0 : Fin 3) tileGather.startIndexMap,
        List.idxOf_lt_length_iff.2 (List.mem_singleton.mpr rfl)⟩ = ix2 (y 0) 0 := by
      funext b; refine Fin.ext ?_
      match b with
      | ⟨0, _⟩ => rfl
      | ⟨1, _⟩ => rfl
    erw [hsi]
    rfl
  | ⟨1, h⟩ =>
    have hs : tileGather.start y idx ⟨1, h⟩ = 0 := dif_neg (show (⟨1, by decide⟩ : Fin 3) ∉ ([0] : List (Fin 3)) by decide)
    refine (congrArg (· + 0 + tileGather.offCoord y ⟨1, h⟩) hs).trans ?_
    show 0 + 0 + tileGather.offCoord y ⟨1, h⟩ = (y 1).val
    rw [Nat.add_zero, Nat.zero_add]
    rfl
  | ⟨2, h⟩ =>
    have hs : tileGather.start y idx ⟨2, h⟩ = 0 := dif_neg (show (⟨2, by decide⟩ : Fin 3) ∉ ([0] : List (Fin 3)) by decide)
    refine (congrArg (· + 0 + tileGather.offCoord y ⟨2, h⟩) hs).trans ?_
    show 0 + 0 + tileGather.offCoord y ⟨2, h⟩ = (y 2).val
    rw [Nat.add_zero, Nat.zero_add]
    rfl

/-- A table's word in range is neither wrapped nor clamped. -/
theorem wrap_in_range {w : BitVec 32} (h0 : 0 ≤ w.toInt) (h1 : w.toInt < 544) :
    min (Scalar.select (IntOp.cmpi .slt w 0#32) (IntOp.addi w 544#32) w).toInt.toNat 543 = w.toNat % 544 := by
  have hz : IntOp.cmpi .slt w 0#32 = 0 := by
    rw [WordCmp.cmpi_slt_eq, decide_eq_false (by simpa using h0)]; rfl
  rw [Scalar.select_of_eq_zero hz]
  rw [BitVec.toInt_eq_toNat_cond] at *
  have := w.isLt
  split at h0 <;> omega

variable (m : (ℓ : Loc nD τ sig) → Buf (Elt Ideal) ℓ) (c : Dev nD)

/-- Row tile `n`'s gate on expert `e`. -/
def gate (te tv : BitVec 32) (e : Fin 128) : EReal :=
  Scalar.select (IntOp.cmpi .sgt tv 0#32) (FloatOps.uitofp (F := Ideal) .f32 (IntOp.cmpi .eq te (BitVec.ofNat 32 e.val))) (Ideal.ofBits .f32 0x00000000#32)

theorem gate_eq {te : BitVec 32} (h0 : 0 ≤ te.toInt) (h1 : te.toInt < 128) (tv : BitVec 32) (e : Fin 128) :
    gate te tv e = if 0 < tv.toInt ∧ e = ⟨te.toNat % 128, Nat.mod_lt _ (by decide)⟩ then 1 else 0 := by
  unfold gate
  have hq : te = BitVec.ofNat 32 e.val ↔ e = ⟨te.toNat % 128, Nat.mod_lt _ (by decide)⟩ := by
    rw [BitVec.toInt_eq_toNat_cond] at *
    have := te.isLt
    rw [Fin.ext_iff, ← BitVec.toNat_inj, BitVec.toNat_ofNat]
    split at h0 <;> simp only <;> omega
  rw [WordCmp.cmpi_sgt_eq, WordCmp.cmpi_eq_eq, Scalar.select_ofBool, Ideal.ofBits_zero_f32]
  by_cases hv : 0 < tv.toInt <;> by_cases he : te = BitVec.ofNat 32 e.val
  · rw [if_pos (by simpa using hv), if_pos ⟨hv, hq.1 he⟩, decide_eq_true he]
    show (((1 : ℕ) : ℝ) : EReal) = 1
    simp
  · rw [if_pos (by simpa using hv), if_neg (fun h => he (hq.2 h.2)), decide_eq_false he]
    show (((0 : ℕ) : ℝ) : EReal) = 0
    simp
  · rw [if_neg (by simpa using hv), if_neg (fun h => hv h.1)]
  · rw [if_neg (by simpa using hv), if_neg (fun h => hv h.1)]

theorem out_at (r : Fin 2228224) (l : Fin 128)
    (ht : ∀ n, 0 ≤ (m ((c.tc : Thread nD τ).loc main_arg1) n : BitVec 32).toInt ∧ (m ((c.tc : Thread nD τ).loc main_arg1) n : BitVec 32).toInt < 544) :
    @Eq EReal (res_out0 m c (ix2 r l)) (∑ e : Fin 128, gate (m ((c.tc : Thread nD τ).loc main_arg0) (ix1 ⟨r.val / 8 / 512, by omega⟩))
        (m ((c.tc : Thread nD τ).loc main_arg2) (ix1 ⟨r.val / 8 / 512, by omega⟩)) e
      * ffnRow (fun k => m ((c.tc : Thread nD τ).loc main_arg3)
          (ix2 ⟨(m ((c.tc : Thread nD τ).loc main_arg1) (ix1 ⟨r.val / 8 / 512, by omega⟩)).toNat % 544 * 4096 + r.val / 8 % 512 * 8 + k.val / 128,
              by omega⟩ ⟨k.val % 128, by omega⟩))
          (fun k f => m ((c.tc : Thread nD τ).loc main_arg4) (ix3 e k f)) (fun f => m ((c.tc : Thread nD τ).loc main_arg5) (ix2 e f))
          (fun f d => m ((c.tc : Thread nD τ).loc main_arg6) (ix3 e f d)) (fun d => m ((c.tc : Thread nD τ).loc main_arg7) (ix2 e d))
          ⟨r.val % 8 * 128 + l.val, by omega⟩) := by
  unfold res_out0 res_main_v45
  clean_types
  pointwise [gather_tiles]
  simp only [wrap_in_range (ht _).1 (ht _).2]
  refine Finset.sum_congr rfl fun e _ => ?_
  refine congrArg₂ (· * ·) rfl ?_
  unfold ffnRow glu Ideal.logistic
  rfl

/-- The reference at an element, its tables in range. -/
theorem ref_moeOut (r : Fin 2228224) (l : Fin 128)
    (he : ∀ n, 0 ≤ (m ((c.tc : Thread nD τ).loc main_arg0) n : BitVec 32).toInt ∧ (m ((c.tc : Thread nD τ).loc main_arg0) n : BitVec 32).toInt < 128)
    (ht : ∀ n, 0 ≤ (m ((c.tc : Thread nD τ).loc main_arg1) n : BitVec 32).toInt ∧ (m ((c.tc : Thread nD τ).loc main_arg1) n : BitVec 32).toInt < 544) :
    @Eq EReal (res_out0 m c (ix2 r l)) <| moeOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) r l := by
  rw [out_at m c r l ht]
  simp only [gate_eq (he _).1 (he _).2]
  unfold moeOut
  by_cases hv : 0 < (m ((c.tc : Thread nD τ).loc main_arg2) (ix1 ⟨r.val / 8 / 512, by omega⟩) : BitVec 32).toInt
  · rw [Finset.sum_eq_single ⟨(m ((c.tc : Thread nD τ).loc main_arg0) (ix1 ⟨r.val / 8 / 512, by omega⟩) : BitVec 32).toNat % 128, Nat.mod_lt _ (by decide)⟩]
    · rw [if_pos ⟨hv, rfl⟩, one_mul]
      exact (if_pos hv).symm
    · intro e _ hne
      rw [if_neg (fun h => hne h.2), zero_mul]
    · intro h; exact absurd (Finset.mem_univ _) h
  · refine (Finset.sum_eq_zero fun e _ => ?_).trans (if_neg hv).symm
    rw [if_neg (fun h => hv h.1), zero_mul]

end Cert.ReferenceIdeal.Moe
end
-- ==== Proof.InBlock.lean ====
/- What the input projection's body leaves in its four output blocks: one projection of the normalised rows, stored four ways. -/
module

public import proofs.«01_k».proof.Proof.Gen.Kernel2Ideal.Value
public import Idealize.ShloMosaic.Lib.Pointwise
public import Idealize.ShloMosaic.Lib.WholeRead
public import Idealize.ShloMosaic.Lib.Pipeline.ReadBack
public import Idealize.ShloMosaic.Lib.Pipeline.ValueKit.Acc
public import Idealize.ShloMosaic.Lib.ValueLayout

@[expose] public section

set_option maxRecDepth 16384

noncomputable section

namespace Cert.Kernel2Ideal.InProj

open Idealize.ShloMosaic Cert.Kernel2Ideal Cert.Kernel2Ideal.Gen

/-- Row `r`'s projection on column `n`, of one block of 512 rows: the normalised, modulated row times the weights.
    (The two remainders keep the definition total: every use is in range.) -/
def proj (x0 : Vec Ideal S512x1024 .f32) (x1 : Vec Ideal S1x6x1024 .f32) (x2 : Vec Ideal S1024x2816 .bf16) (r n : ℕ) : EReal :=
  ∑ k : Fin 1024, (k0_pay7 x1 x0 (ix2 ⟨r % 512, Nat.mod_lt _ (by decide)⟩ k) : EReal)
    * x2 (ix2 k ⟨n % 2816, Nat.mod_lt _ (by decide)⟩)

variable {arg2 : Memref sig .tc .vmem S512x1024 .f32} {harg2 : arg2.IsWhole}
  {arg3 : Memref sig .tc .vmem S1x6x1024 .f32} {harg3 : arg3.IsWhole}
  {arg4 : Memref sig .tc .vmem S1024x2816 .bf16} {harg4 : arg4.IsWhole}
  {arg9 : Memref sig .tc .vmem S18x512x128 .f32} {arg10 : Memref sig .tc .vmem S512x1024 .bf16}
  {x0 : Vec Ideal S512x1024 .f32} {x1 : Vec Ideal S1x6x1024 .f32} {x2 : Vec Ideal S1024x2816 .bf16}

theorem pay8_row (u : FVec Ideal S512x1024 .bf16) (w : Vec Ideal S1024x256 .bf16) (r : Fin 512) (n : Fin 256) :
    k0_pay8 u w (ix2 r n) = ∑ k : Fin 1024, (u (ix2 r k) : EReal) * w (ix2 k n) := by
  pointwise [k0_pay8]

variable (harg2 harg3 harg4 arg10 x0 x1 x2) in
/-- One matrix product of the body, on 256 columns from column `o`, through the buffers it reads. -/
abbrev product (o : ℕ) (h : ∀ a, (![0, o] : Fin 2 → ℕ) a + S1024x256.size a ≤ S1024x2816.size a) : FVec Ideal S512x256 .f32 :=
  k0_pay8 (F := Ideal)
    (arg10.view.readCov [⟨Rect.unit ![0, 0] S512x1024.size inb_S512x1024_S512x1024_0_0,
        k0_pay7 (View.readAt (Elt Ideal) arg3.view (Rect.unit ![0, 0, 0] S1x6x1024.size inb_S1x6x1024_S1x6x1024_0_0_0).toLoadRect (harg3.unread x1))
          (View.readAt (Elt Ideal) arg2.view (Rect.unit ![0, 0] S512x1024.size inb_S512x1024_S512x1024_0_0).toLoadRect (harg2.unread x0))⟩]
      (Rect.unit ![0, 0] S512x1024.size inb_S512x1024_S512x1024_0_0).toLoadRect)
    (View.readAt (Elt Ideal) arg4.view (Rect.unit (s := S1024x2816) ![0, o] S1024x256.size h).toLoadRect (harg4.unread x2))

theorem product_apply {o : ℕ} (ho : o + 256 ≤ 2816) (h : ∀ a, (![0, o] : Fin 2 → ℕ) a + S1024x256.size a ≤ S1024x2816.size a)
    (r : Fin 512) (n : Fin 256) : product harg2 harg3 harg4 arg10 x0 x1 x2 o h (ix2 r n) = proj x0 x1 x2 r.val (o + n.val) := by
  have e1 : View.readAt (Elt Ideal) arg3.view (Rect.unit ![0, 0, 0] S1x6x1024.size inb_S1x6x1024_S1x6x1024_0_0_0).toLoadRect (harg3.unread x1) = x1 :=
    funext fun y => (harg3.readAt_unread x1 _ y).trans (congrArg x1 (funext fun a => Fin.ext (by
      match a with
      | ⟨0, _⟩ => show 0 + 1 * (y 0).val = (y 0).val; omega
      | ⟨1, _⟩ => show 0 + 1 * (y 1).val = (y 1).val; omega
      | ⟨2, _⟩ => show 0 + 1 * (y 2).val = (y 2).val; omega)))
  have e2 : View.readAt (Elt Ideal) arg2.view (Rect.unit ![0, 0] S512x1024.size inb_S512x1024_S512x1024_0_0).toLoadRect (harg2.unread x0) = x0 :=
    funext fun y => (harg2.readAt_unread x0 _ y).trans (congrArg x0 (funext fun a => Fin.ext (by
      match a with
      | ⟨0, _⟩ => show 0 + 1 * (y 0).val = (y 0).val; omega
      | ⟨1, _⟩ => show 0 + 1 * (y 1).val = (y 1).val; omega)))
  unfold product proj
  rw [e1, e2, View.readCov_unit_lit' arg10.view inb_S512x1024_S512x1024_0_0 _ (by decide), pay8_row]
  refine Finset.sum_congr rfl fun k _ => ?_
  refine congrArg₂ (· * ·) (congrArg (k0_pay7 x1 x0) (funext fun a => Fin.ext ?_)) ((harg4.readAt_unread x2 _ _).trans (congrArg x2 (funext fun a => Fin.ext ?_)))
  · match a with
    | ⟨0, _⟩ => show r.val = r.val % 512; omega
    | ⟨1, _⟩ => rfl
  · match a with
    | ⟨0, _⟩ => show 0 + 1 * k.val = k.val; omega
    | ⟨1, _⟩ => show o + 1 * n.val = (o + n.val) % 2816; omega

/-- The newest store of the scratch list `L` is slab `j`: 128 columns of the projection from column `128 j`. -/
def Slab (x0 : Vec Ideal S512x1024 .f32) (x1 : Vec Ideal S1x6x1024 .f32) (x2 : Vec Ideal S1024x2816 .bf16) (j : ℕ)
    (L : List (View.Piece (Elt Ideal) S18x512x128 .f32)) : Prop :=
  ∃ (h : ∀ a, (![j, 0, 0] : Fin 3 → ℕ) a + S1x512x128.size a ≤ S18x512x128.size a) (w : FVec Ideal S1x512x128 .f32)
    (L' : List (View.Piece (Elt Ideal) S18x512x128 .f32)),
    L = ⟨Rect.unit ![j, 0, 0] S1x512x128.size h, w⟩ :: L' ∧ ∀ k : S1x512x128.Idx, w k = proj x0 x1 x2 (k 1).val (128 * j + (k 2).val)

/-- Half of a product, 128 columns from its column `s`. -/
theorem half {o s : ℕ} (hs : s + 128 ≤ 256) (ho : o + 256 ≤ 2816)
    (h : ∀ a, (![0, o] : Fin 2 → ℕ) a + S1024x256.size a ≤ S1024x2816.size a)
    (hx : S512x256.Slices ![0, s] S512x128) (r : Fin 512) (l : Fin 128) :
    extractStridedSlice S512x128 ![0, s] (product harg2 harg3 harg4 arg10 x0 x1 x2 o h) hx (ix2 r l)
      = proj x0 x1 x2 r.val (o + s + l.val) := by
  refine Eq.trans (congrArg (product harg2 harg3 harg4 arg10 x0 x1 x2 o h) (funext fun a => Fin.ext ?_))
    ((product_apply ho h r ⟨s + l.val, by omega⟩).trans (by rw [Nat.add_assoc]))
  match a with
  | ⟨0, _⟩ => show 0 + r.val = r.val; omega
  | ⟨1, _⟩ => rfl

/-- A load of `n` rows of slab `j`, every `st`-th from row `r`, is the projection of those rows. -/
theorem read_slab {L : List (View.Piece (Elt Ideal) S18x512x128 .f32)} {j r st n : ℕ} (hL : Slab x0 x1 x2 j L)
    (hb : ∀ a, (![1, n, 128] : Fin 3 → ℕ) a = 0
      ∨ (![j, r, 0] : Fin 3 → ℕ) a + (![1, st, 1] : Fin 3 → ℕ) a * ((![1, n, 128] : Fin 3 → ℕ) a - 1) < S18x512x128.size a)
    (y : (⟨3, ![1, n, 128]⟩ : Shape).Idx) :
    arg9.view.readCov L ⟨![j, r, 0], ![1, n, 128], ![1, st, 1], hb⟩ y = proj x0 x1 x2 (r + st * (y 1).val) (128 * j + (y 2).val) := by
  obtain ⟨h, w, L', rfl, hw⟩ := hL
  have h0 : (y 0).val < 1 := (y 0).isLt
  have h1 : (y 1).val < n := (y 1).isLt
  have h2 : (y 2).val < 128 := (y 2).isLt
  have hr : r + st * (y 1).val < 512 := by
    have hb1 : n = 0 ∨ r + st * (n - 1) < 512 := hb 1
    have hm : st * (y 1).val ≤ st * (n - 1) := Nat.mul_le_mul_left _ (by omega)
    omega
  rw [View.readCov_eq_canon']
  refine Eq.trans (congrArg (View.canon _) (a₂ := (Rect.unit (s := S18x512x128) ![j, 0, 0] S1x512x128.size h).emb
      (ix3 0 ⟨r + st * (y 1).val, hr⟩ ⟨(y 2).val, h2⟩)) (funext fun a => Fin.ext ?_)) ((View.canon_cons_emb (Val := Elt Ideal) (Rect.unit (s := S18x512x128) ![j, 0, 0] S1x512x128.size h) w L'
      (ix3 0 ⟨r + st * (y 1).val, hr⟩ ⟨(y 2).val, h2⟩)).trans (hw (ix3 0 ⟨r + st * (y 1).val, hr⟩ ⟨(y 2).val, h2⟩)))
  match a with
  | ⟨0, _⟩ => show j + 1 * (y 0).val = j + 1 * 0; omega
  | ⟨1, _⟩ => show r + st * (y 1).val = 0 + 1 * (r + st * (y 1).val); omega
  | ⟨2, _⟩ => show 0 + 1 * (y 2).val = 0 + 1 * (y 2).val; omega

/-- Half `s / 128` of the product from column `o`, stored as slab `j` of the scratch. -/
theorem slab_of {o s j : ℕ} (hj : o + s = 128 * j) (hs : s + 128 ≤ 256) (ho : o + 256 ≤ 2816)
    (h : ∀ a, (![0, o] : Fin 2 → ℕ) a + S1024x256.size a ≤ S1024x2816.size a)
    (hx : S512x256.Slices ![0, s] S512x128) (hc : S512x128.ShapeCasts S1x512x128)
    (hb : ∀ a, (![j, 0, 0] : Fin 3 → ℕ) a + S1x512x128.size a ≤ S18x512x128.size a)
    (L' : List (View.Piece (Elt Ideal) S18x512x128 .f32)) :
    Slab x0 x1 x2 j (⟨Rect.unit ![j, 0, 0] S1x512x128.size hb, shapeCast S1x512x128
      (extractStridedSlice S512x128 ![0, s] (product harg2 harg3 harg4 arg10 x0 x1 x2 o h) hx) hc⟩ :: L') := by
  refine ⟨hb, _, L', rfl, fun k => ?_⟩
  have k0 : (k 0).val < 1 := (k 0).isLt
  have k1 : (k 1).val < 512 := (k 1).isLt
  have k2 : (k 2).val < 128 := (k 2).isLt
  refine (shapeCast_apply _ hc k (ix2 ⟨(k 1).val, k1⟩ ⟨(k 2).val, k2⟩) ?_).trans ((half hs ho h hx _ _).trans (by rw [hj]))
  rw [Shape.rowMajor_val_three, Shape.rowMajor_val_two]
  show (k 1).val * 128 + (k 2).val = ((k 0).val * 512 + (k 1).val) * 128 + (k 2).val
  omega

/-- What the first block holds: the projection by slabs. -/
def natural (x0 : Vec Ideal S512x1024 .f32) (x1 : Vec Ideal S1x6x1024 .f32) (x2 : Vec Ideal S1024x2816 .bf16) : Vec Ideal S18x1x512x128 .bf16 :=
  fun y => proj x0 x1 x2 (y 2).val (128 * (y 0).val + (y 3).val)

/-- What the second and third hold: the same with the rows dealt out, `4` and `16` apart. -/
def dealt4 (x0 : Vec Ideal S512x1024 .f32) (x1 : Vec Ideal S1x6x1024 .f32) (x2 : Vec Ideal S1024x2816 .bf16) : Vec Ideal S18x1x4x128x128 .bf16 :=
  fun y => proj x0 x1 x2 ((y 2).val + 4 * (y 3).val) (128 * (y 0).val + (y 4).val)

@[inherit_doc dealt4]
def dealt16 (x0 : Vec Ideal S512x1024 .f32) (x1 : Vec Ideal S1x6x1024 .f32) (x2 : Vec Ideal S1024x2816 .bf16) : Vec Ideal S18x1x16x32x128 .bf16 :=
  fun y => proj x0 x1 x2 ((y 2).val + 16 * (y 3).val) (128 * (y 0).val + (y 4).val)

/-- What the fourth holds: the columns left over. -/
def rest (x0 : Vec Ideal S512x1024 .f32) (x1 : Vec Ideal S1x6x1024 .f32) (x2 : Vec Ideal S1024x2816 .bf16) : Vec Ideal S512x512 .f32 :=
  fun y => proj x0 x1 x2 (y 0).val (2304 + (y 1).val)

/-- One store of the first block. -/
theorem piece1 {o s j : ℕ} (hj : o + s = 128 * j) (hs : s + 128 ≤ 256) (ho : o + 256 ≤ 2816)
    (h : ∀ a, (![0, o] : Fin 2 → ℕ) a + S1024x256.size a ≤ S1024x2816.size a)
    (hx : S512x256.Slices ![0, s] S512x128) (hc : S512x128.ShapeCasts S1x1x512x128) (ht : FTy.bits .bf16 < FTy.bits .f32)
    (hb : ∀ a, (![j, 0, 0, 0] : Fin 4 → ℕ) a + S1x1x512x128.size a ≤ S18x1x512x128.size a) (x : S1x1x512x128.Idx) :
    natural x0 x1 x2 ((Rect.unit (s := S18x1x512x128) ![j, 0, 0, 0] S1x1x512x128.size hb).emb x)
      = shapeCast S1x1x512x128 (truncf (F := Ideal) .bf16
          (extractStridedSlice S512x128 ![0, s] (product harg2 harg3 harg4 arg10 x0 x1 x2 o h) hx) ht) hc x := by
  have b0 : (x 0).val < 1 := (x 0).isLt
  have b1 : (x 1).val < 1 := (x 1).isLt
  have b2 : (x 2).val < 512 := (x 2).isLt
  have b3 : (x 3).val < 128 := (x 3).isLt
  refine Eq.symm ((shapeCast_apply _ hc x (ix2 ⟨(x 2).val, b2⟩ ⟨(x 3).val, b3⟩) ?_).trans ((half hs ho h hx _ _).trans ?_))
  · rw [Shape.rowMajor_val_four, Shape.rowMajor_val_two]
    show (x 2).val * 128 + (x 3).val = (((x 0).val * 1 + (x 1).val) * 512 + (x 2).val) * 128 + (x 3).val
    omega
  · refine congrArg₂ (proj x0 x1 x2) ?_ ?_
    · show (x 2).val = 0 + 1 * (x 2).val
      omega
    · show o + s + (x 3).val = 128 * (j + 1 * (x 0).val) + (0 + 1 * (x 3).val)
      omega

/-- One store of the fourth block. -/
theorem pieceR {o s d : ℕ} (hd : o + s = 2304 + d) (hs : s + 128 ≤ 256) (ho : o + 256 ≤ 2816)
    (h : ∀ a, (![0, o] : Fin 2 → ℕ) a + S1024x256.size a ≤ S1024x2816.size a)
    (hx : S512x256.Slices ![0, s] S512x128)
    (hb : ∀ a, (![0, d] : Fin 2 → ℕ) a + S512x128.size a ≤ S512x512.size a) (x : S512x128.Idx) :
    rest x0 x1 x2 ((Rect.unit (s := S512x512) ![0, d] S512x128.size hb).emb x)
      = extractStridedSlice S512x128 ![0, s] (product harg2 harg3 harg4 arg10 x0 x1 x2 o h) hx x := by
  have b0 : (x 0).val < 512 := (x 0).isLt
  have b1 : (x 1).val < 128 := (x 1).isLt
  refine Eq.symm (Eq.trans (congrArg _ (a₂ := ix2 ⟨(x 0).val, b0⟩ ⟨(x 1).val, b1⟩) (funext fun a => Fin.ext ?_)) ((half hs ho h hx _ _).trans ?_))
  · match a with
    | ⟨0, _⟩ => rfl
    | ⟨1, _⟩ => rfl
  · refine congrArg₂ (proj x0 x1 x2) ?_ ?_
    · show (x 0).val = 0 + 1 * (x 0).val
      omega
    · show o + s + (x 1).val = 2304 + (d + 1 * (x 1).val)
      omega

/-- One strided store of the second block. -/
theorem piece4 {L : List (View.Piece (Elt Ideal) S18x512x128 .f32)} {j r : ℕ} (hL : Slab x0 x1 x2 j L)
    (hb : ∀ a, S1x128x128.size a = 0
      ∨ (![j, r, 0] : Fin 3 → ℕ) a + (![1, 4, 1] : Fin 3 → ℕ) a * (S1x128x128.size a - 1) < S18x512x128.size a)
    (h : ∀ a, (![j, 0, r, 0, 0] : Fin 5 → ℕ) a + S1x1x1x128x128.size a ≤ S18x1x4x128x128.size a)
    (ht : FTy.bits .bf16 < FTy.bits .f32) (hc : S1x128x128.ShapeCasts S128x128) (hd : S128x128.ShapeCasts S1x1x1x128x128)
    (x : S1x1x1x128x128.Idx) :
    dealt4 x0 x1 x2 ((Rect.unit (s := S18x1x4x128x128) ![j, 0, r, 0, 0] S1x1x1x128x128.size h).emb x)
      = shapeCast S1x1x1x128x128 (truncf (F := Ideal) .bf16 (shapeCast S128x128
          (arg9.view.readCov L ⟨![j, r, 0], S1x128x128.size, ![1, 4, 1], hb⟩ : FVec Ideal S1x128x128 .f32) hc) ht) hd x := by
  have b0 : (x 0).val < 1 := (x 0).isLt
  have b1 : (x 1).val < 1 := (x 1).isLt
  have b2 : (x 2).val < 1 := (x 2).isLt
  have b3 : (x 3).val < 128 := (x 3).isLt
  have b4 : (x 4).val < 128 := (x 4).isLt
  refine Eq.symm ((shapeCast_apply _ hd x (ix2 ⟨(x 3).val, b3⟩ ⟨(x 4).val, b4⟩) ?_).trans
    ((ValueIdx.shapeCast_1ab_ab_apply _ hc _ _).trans ((read_slab hL hb _).trans ?_)))
  · rw [Shape.rowMajor_val_five, Shape.rowMajor_val_two]
    show (x 3).val * 128 + (x 4).val = ((((x 0).val * 1 + (x 1).val) * 1 + (x 2).val) * 128 + (x 3).val) * 128 + (x 4).val
    omega
  · refine congrArg₂ (proj x0 x1 x2) ?_ ?_
    · show r + 4 * (x 3).val = r + 1 * (x 2).val + 4 * (0 + 1 * (x 3).val)
      omega
    · show 128 * j + (x 4).val = 128 * (j + 1 * (x 0).val) + (0 + 1 * (x 4).val)
      omega

/-- One strided store of the third block. -/
theorem piece16 {L : List (View.Piece (Elt Ideal) S18x512x128 .f32)} {j r : ℕ} (hL : Slab x0 x1 x2 j L)
    (hb : ∀ a, S1x32x128.size a = 0
      ∨ (![j, r, 0] : Fin 3 → ℕ) a + (![1, 16, 1] : Fin 3 → ℕ) a * (S1x32x128.size a - 1) < S18x512x128.size a)
    (h : ∀ a, (![j, 0, r, 0, 0] : Fin 5 → ℕ) a + S1x1x1x32x128.size a ≤ S18x1x16x32x128.size a)
    (ht : FTy.bits .bf16 < FTy.bits .f32) (hc : S1x32x128.ShapeCasts S32x128) (hd : S32x128.ShapeCasts S1x1x1x32x128)
    (x : S1x1x1x32x128.Idx) :
    dealt16 x0 x1 x2 ((Rect.unit (s := S18x1x16x32x128) ![j, 0, r, 0, 0] S1x1x1x32x128.size h).emb x)
      = shapeCast S1x1x1x32x128 (truncf (F := Ideal) .bf16 (shapeCast S32x128
          (arg9.view.readCov L ⟨![j, r, 0], S1x32x128.size, ![1, 16, 1], hb⟩ : FVec Ideal S1x32x128 .f32) hc) ht) hd x := by
  have b0 : (x 0).val < 1 := (x 0).isLt
  have b1 : (x 1).val < 1 := (x 1).isLt
  have b2 : (x 2).val < 1 := (x 2).isLt
  have b3 : (x 3).val < 32 := (x 3).isLt
  have b4 : (x 4).val < 128 := (x 4).isLt
  refine Eq.symm ((shapeCast_apply _ hd x (ix2 ⟨(x 3).val, b3⟩ ⟨(x 4).val, b4⟩) ?_).trans
    ((ValueIdx.shapeCast_1ab_ab_apply _ hc _ _).trans ((read_slab hL hb _).trans ?_)))
  · rw [Shape.rowMajor_val_five, Shape.rowMajor_val_two]
    show (x 3).val * 128 + (x 4).val = ((((x 0).val * 1 + (x 1).val) * 1 + (x 2).val) * 32 + (x 3).val) * 128 + (x 4).val
    omega
  · refine congrArg₂ (proj x0 x1 x2) ?_ ?_
    · show r + 16 * (x 3).val = r + 1 * (x 2).val + 16 * (0 + 1 * (x 3).val)
      omega
    · show 128 * j + (x 4).val = 128 * (j + 1 * (x 0).val) + (0 + 1 * (x 4).val)
      omega

end Cert.Kernel2Ideal.InProj
end
-- ==== Proof.InOut.lean ====
/- The input projection's four output blocks, whole: every store of the body is a piece of one array. -/
module

public import proofs.«01_k».proof.Proof.InBlock

@[expose] public section

set_option maxRecDepth 16384

noncomputable section

namespace Cert.Kernel2Ideal.InProj

open Idealize.ShloMosaic Cert.Kernel2Ideal Cert.Kernel2Ideal.Gen

variable (c : Dev nD) (i : grid0.Coords)
  (arg2 : Memref sig .tc .vmem S512x1024 .f32) (harg2 : arg2.IsWhole)
  (arg3 : Memref sig .tc .vmem S1x6x1024 .f32) (harg3 : arg3.IsWhole)
  (arg4 : Memref sig .tc .vmem S1024x2816 .bf16) (harg4 : arg4.IsWhole)
  (arg5 : Memref sig .tc .vmem S18x1x512x128 .bf16) (harg5 : arg5.IsWhole)
  (arg6 : Memref sig .tc .vmem S18x1x4x128x128 .bf16) (harg6 : arg6.IsWhole)
  (arg7 : Memref sig .tc .vmem S18x1x16x32x128 .bf16) (harg7 : arg7.IsWhole)
  (arg8 : Memref sig .tc .vmem S512x512 .f32) (harg8 : arg8.IsWhole)
  (arg9 : Memref sig .tc .vmem S18x512x128 .f32) (harg9 : arg9.IsWhole)
  (arg10 : Memref sig .tc .vmem S512x1024 .bf16) (harg10 : arg10.IsWhole)
  (x0 : Vec Ideal S512x1024 .f32) (x1 : Vec Ideal S1x6x1024 .f32) (x2 : Vec Ideal S1024x2816 .bf16)

/-- The scratch's stores up to slab `j`'s. -/
def stores : ℕ → List (View.Piece (Elt Ideal) S18x512x128 .f32)
  | 0 => kernelRun0_A.sl.HS0_1 c arg2 harg2 arg3 harg3 arg4 harg4 arg10 x0 x1 x2
  | 1 => kernelRun0_A.sl.HS0_2 c arg2 harg2 arg3 harg3 arg4 harg4 arg10 x0 x1 x2
  | 2 => kernelRun0_A.sl.HS0_3 c arg2 harg2 arg3 harg3 arg4 harg4 arg10 x0 x1 x2
  | 3 => kernelRun0_A.sl.HS0_4 c arg2 harg2 arg3 harg3 arg4 harg4 arg10 x0 x1 x2
  | 4 => kernelRun0_A.sl.HS0_5 c arg2 harg2 arg3 harg3 arg4 harg4 arg10 x0 x1 x2
  | 5 => kernelRun0_A.sl.HS0_6 c arg2 harg2 arg3 harg3 arg4 harg4 arg10 x0 x1 x2
  | 6 => kernelRun0_A.sl.HS0_7 c arg2 harg2 arg3 harg3 arg4 harg4 arg10 x0 x1 x2
  | 7 => kernelRun0_A.sl.HS0_8 c arg2 harg2 arg3 harg3 arg4 harg4 arg10 x0 x1 x2
  | 8 => kernelRun0_A.sl.HS0_9 c arg2 harg2 arg3 harg3 arg4 harg4 arg10 x0 x1 x2
  | 9 => kernelRun0_A.sl.HS0_10 c arg2 harg2 arg3 harg3 arg4 harg4 arg10 x0 x1 x2
  | 10 => kernelRun0_A.sl.HS0_11 c arg2 harg2 arg3 harg3 arg4 harg4 arg10 x0 x1 x2
  | 11 => kernelRun0_A.sl.HS0_12 c arg2 harg2 arg3 harg3 arg4 harg4 arg10 x0 x1 x2
  | 12 => kernelRun0_A.sl.HS0_13 c arg2 harg2 arg3 harg3 arg4 harg4 arg10 x0 x1 x2
  | 13 => kernelRun0_A.sl.HS0_14 c arg2 harg2 arg3 harg3 arg4 harg4 arg10 x0 x1 x2
  | 14 => kernelRun0_A.sl.HS0_15 c arg2 harg2 arg3 harg3 arg4 harg4 arg10 x0 x1 x2
  | 15 => kernelRun0_A.sl.HS0_16 c arg2 harg2 arg3 harg3 arg4 harg4 arg10 x0 x1 x2
  | 16 => kernelRun0_A.sl.HS0_17 c arg2 harg2 arg3 harg3 arg4 harg4 arg10 x0 x1 x2
  | _ => kernelRun0_A.sl.HS0_18 c arg2 harg2 arg3 harg3 arg4 harg4 arg10 x0 x1 x2

/-- The newest of an even count less one is the left half of a product, -/
theorem slab_even (k : ℕ) (hk : k < 9) : Slab x0 x1 x2 (2 * k) (stores c arg2 harg2 arg3 harg3 arg4 harg4 arg10 x0 x1 x2 (2 * k)) := by
  interval_cases k
  all_goals refine slab_of (s := 0) ?_ ?_ ?_ ?_ slices_S512x256_o0_0_S512x128 shapeCasts_S512x128_S1x512x128 ?_ _
  all_goals decide

/-- and of an odd one the right half. -/
theorem slab_odd (k : ℕ) (hk : k < 9) : Slab x0 x1 x2 (2 * k + 1) (stores c arg2 harg2 arg3 harg3 arg4 harg4 arg10 x0 x1 x2 (2 * k + 1)) := by
  interval_cases k
  all_goals refine slab_of (s := 128) ?_ ?_ ?_ ?_ slices_S512x256_o0_128_S512x128 shapeCasts_S512x128_S1x512x128 ?_ _
  all_goals decide

theorem slab (j : ℕ) (hj : j < 18) : Slab x0 x1 x2 j (stores c arg2 harg2 arg3 harg3 arg4 harg4 arg10 x0 x1 x2 j) := by
  obtain ⟨k, rfl | rfl⟩ := Nat.even_or_odd' j
  · exact slab_even c arg2 harg2 arg3 harg3 arg4 harg4 arg10 x0 x1 x2 k (by omega)
  · exact slab_odd c arg2 harg2 arg3 harg3 arg4 harg4 arg10 x0 x1 x2 k (by omega)

attribute [local irreducible] shapeCast truncf View.readCov

/-- The first block, whole. -/
theorem out1 : out0_A_3 c i arg2 harg2 arg3 harg3 arg4 harg4 arg5 harg5 arg6 harg6 arg7 harg7 arg8 harg8 arg9 harg9 arg10 harg10 x0 x1 x2
    = natural x0 x1 x2 := by
  have hc := cover0_A_3 c i arg2 harg2 arg3 harg3 arg4 harg4 arg5 harg5 arg6 harg6 arg7 harg7 arg8 harg8 arg9 harg9 arg10 harg10 x0 x1 x2
  funext y
  unfold out0_A_3
  refine (congrFun (View.read_writes_eq_canon _ _ _ hc) y).trans (View.canon_apply_of_pieces _ _ (View.PiecesOf.mem ?_) y (hc y))
  dsimp only [kernelRun0_A]
  iterate 9
    refine ⟨fun x => Eq.symm (piece1 (s := 128) (by rfl) (by decide) (by decide) (by decide) slices_S512x256_o0_128_S512x128
      shapeCasts_S512x128_S1x1x512x128 bitsLt_bf16_f32 (by decide) x), ?_⟩
    refine ⟨fun x => Eq.symm (piece1 (s := 0) (by rfl) (by decide) (by decide) (by decide) slices_S512x256_o0_0_S512x128
      shapeCasts_S512x128_S1x1x512x128 bitsLt_bf16_f32 (by decide) x), ?_⟩
  trivial

/-- The second. -/
theorem out4 : out0_A_4 c i arg2 harg2 arg3 harg3 arg4 harg4 arg5 harg5 arg6 harg6 arg7 harg7 arg8 harg8 arg9 harg9 arg10 harg10 x0 x1 x2
    = dealt4 x0 x1 x2 := by
  have hc := cover0_A_4 c i arg2 harg2 arg3 harg3 arg4 harg4 arg5 harg5 arg6 harg6 arg7 harg7 arg8 harg8 arg9 harg9 arg10 harg10 x0 x1 x2
  funext y
  unfold out0_A_4
  refine (congrFun (View.read_writes_eq_canon _ _ _ hc) y).trans (View.canon_apply_of_pieces _ _ (View.PiecesOf.mem ?_) y (hc y))
  dsimp only [kernelRun0_A]
  have hs := slab c arg2 harg2 arg3 harg3 arg4 harg4 arg10 x0 x1 x2
  iterate 72
    refine ⟨fun x => Eq.symm (piece4 (hs _ ?_) ?_ ?_ bitsLt_bf16_f32 shapeCasts_S1x128x128_S128x128 shapeCasts_S128x128_S1x1x1x128x128 x), ?_⟩
    iterate 3 decide
  trivial

set_option maxHeartbeats 2000000 in
/-- The third. -/
theorem out16 : out0_A_5 c i arg2 harg2 arg3 harg3 arg4 harg4 arg5 harg5 arg6 harg6 arg7 harg7 arg8 harg8 arg9 harg9 arg10 harg10 x0 x1 x2
    = dealt16 x0 x1 x2 := by
  have hc := cover0_A_5 c i arg2 harg2 arg3 harg3 arg4 harg4 arg5 harg5 arg6 harg6 arg7 harg7 arg8 harg8 arg9 harg9 arg10 harg10 x0 x1 x2
  funext y
  unfold out0_A_5
  refine (congrFun (View.read_writes_eq_canon _ _ _ hc) y).trans (View.canon_apply_of_pieces _ _ (View.PiecesOf.mem ?_) y (hc y))
  dsimp only [kernelRun0_A]
  have hs := slab c arg2 harg2 arg3 harg3 arg4 harg4 arg10 x0 x1 x2
  iterate 288
    refine ⟨fun x => Eq.symm (piece16 (hs _ ?_) ?_ ?_ bitsLt_bf16_f32 shapeCasts_S1x32x128_S32x128 shapeCasts_S32x128_S1x1x1x32x128 x), ?_⟩
    iterate 3 decide
  trivial

/-- The fourth. -/
theorem outR : out0_A_6 c i arg2 harg2 arg3 harg3 arg4 harg4 arg5 harg5 arg6 harg6 arg7 harg7 arg8 harg8 arg9 harg9 arg10 harg10 x0 x1 x2
    = rest x0 x1 x2 := by
  have hc := cover0_A_6 c i arg2 harg2 arg3 harg3 arg4 harg4 arg5 harg5 arg6 harg6 arg7 harg7 arg8 harg8 arg9 harg9 arg10 harg10 x0 x1 x2
  funext y
  unfold out0_A_6
  refine (congrFun (View.read_writes_eq_canon _ _ _ hc) y).trans (View.canon_apply_of_pieces _ _ (View.PiecesOf.mem ?_) y (hc y))
  dsimp only [kernelRun0_A]
  iterate 2
    refine ⟨fun x => Eq.symm (pieceR (s := 128) (by rfl) (by decide) (by decide) (by decide) slices_S512x256_o0_128_S512x128 (by decide) x), ?_⟩
    refine ⟨fun x => Eq.symm (pieceR (s := 0) (by rfl) (by decide) (by decide) (by decide) slices_S512x256_o0_0_S512x128 (by decide) x), ?_⟩
  trivial

end Cert.Kernel2Ideal.InProj
end
-- ==== Proof.InSpec.lean ====
/- What one entry of the layer's input projection is over the extended reals, and that the kernel's block computes it. -/
module

public import proofs.«01_k».proof.Proof.InOut

@[expose] public section

set_option maxRecDepth 16384

noncomputable section

namespace Cert.Kernel2Ideal.InProj

open Idealize.ShloMosaic Cert.Kernel2Ideal Cert.Kernel2Ideal.Gen

/-- A row less its mean. -/
def centred (x : Fin 1024 → EReal) (k : Fin 1024) : EReal := x k - Ideal.div (∑ j, x j) (Ideal.ofBits .f32 0x44800000#32)

/-- A row normalised over its 1024 entries, then scaled by one plus `g` and shifted by `s`. -/
def modulated (x s g : Fin 1024 → EReal) (k : Fin 1024) : EReal :=
  centred x k * Ideal.rsqrt (Ideal.div (∑ j, centred x j * centred x j) (Ideal.ofBits .f32 0x44800000#32) + Ideal.ofBits .f32 0x3727C5AC#32)
    * (1 + g k) + s k

theorem pay7_row (x0 : Vec Ideal S512x1024 .f32) (x1 : Vec Ideal S1x6x1024 .f32) (r : Fin 512) (k : Fin 1024) :
    k0_pay7 x1 x0 (ix2 r k) = modulated (fun j => x0 (ix2 r j)) (fun j => x1 (ix3 0 0 j)) (fun j => x1 (ix3 0 1 j)) k := by
  pointwise [k0_pay7, modulated, centred]

/-- A column's factor: the queries' columns are the first 768. -/
def factor (n : ℕ) : EReal := if n < 768 then Ideal.ofBits .f32 0x3E38AA3B#32 else 1

/-- Entry `n` of the projection of row `s` of sequence `b`.
    (The remainders keep the definition total: every use is in range.) -/
def entry (x : Vec Ideal S32x2048x1024 .f32) (a : Vec Ideal S32x6x1024 .f32) (w : Vec Ideal S1024x2816 .f32) (b s n : ℕ) : EReal :=
  ∑ k : Fin 1024, modulated (fun j => x (ix3 ⟨b % 32, Nat.mod_lt _ (by decide)⟩ ⟨s % 2048, Nat.mod_lt _ (by decide)⟩ j))
      (fun j => a (ix3 ⟨b % 32, Nat.mod_lt _ (by decide)⟩ 0 j)) (fun j => a (ix3 ⟨b % 32, Nat.mod_lt _ (by decide)⟩ 1 j)) k
    * (w (ix2 k ⟨n % 2816, Nat.mod_lt _ (by decide)⟩) * factor n)

end Cert.Kernel2Ideal.InProj
end
-- ==== Proof.InValue.lean ====
/- The input projection's four result arrays over the extended reals. -/
module

public import proofs.«01_k».proof.Proof.InSpec
public import Idealize.ShloMosaic.Lib.Claim

@[expose] public section

set_option maxRecDepth 16384

noncomputable section

namespace Cert.Kernel2Ideal.InProj

open Idealize.ShloMosaic Idealize.ShloMosaic.TcCoe Idealize.SL.Sem
open Cert.Kernel2Ideal Cert.Kernel2Ideal.Gen

variable (m : (ℓ : Loc nD τ sig) → Buf (Elt Ideal) ℓ)

/-- The rows as one array, by the argument. -/
theorem V_x (r : Fin 65536) (k : Fin 1024) :
    V m 0 main_v3 (ix2 r k) = m (((0 : Dev nD).tc : Thread nD τ).loc main_arg0) (ix3 ⟨r.val / 2048, by omega⟩ ⟨r.val % 2048, by omega⟩ k) := by
  entry_read
  pointwise

/-- The weights, scaled. -/
theorem V_w (k : Fin 1024) (n : Fin 2816) :
    @Eq EReal (V m 0 main_v7 (ix2 k n)) (@HMul.hMul EReal EReal EReal _ (m (((0 : Dev nD).tc : Thread nD τ).loc main_arg2) (ix2 k n)) (factor n.val)) := by
  entry_read
  pointwise
  rfl

theorem ix : ∀ t : Fin grid0.N, cc0_transform_0 (grid0.coords t) = ![t.val, 0] ∧ cc0_transform_1 (grid0.coords t) = ![t.val / 4, 0, 0]
    ∧ cc0_transform_2 (grid0.coords t) = ![0, 0] ∧ cc0_transform_3 (grid0.coords t) = ![0, t.val / 4, t.val % 4, 0]
    ∧ cc0_transform_4 (grid0.coords t) = ![0, t.val / 4, 0, t.val % 4, 0] ∧ cc0_transform_5 (grid0.coords t) = ![0, t.val / 4, 0, t.val % 4, 0]
    ∧ cc0_transform_6 (grid0.coords t) = ![t.val, 0] := by decide +kernel

/-- Every block is written back at its own point. -/
theorem flush : ∀ t : Fin grid0.N, win0_3.flush t = true ∧ win0_4.flush t = true ∧ win0_5.flush t = true ∧ win0_6.flush t = true := by
  decide +kernel

theorem modulated_congr {x x' s s' g g' : Fin 1024 → EReal} (hx : ∀ j, x j = x' j) (hs : ∀ j, s j = s' j) (hg : ∀ j, g j = g' j) (k : Fin 1024) :
    modulated x s g k = modulated x' s' g' k := by
  rw [funext hx, funext hs, funext hg]

/-- The launch's entry. -/
def launched (b s n : ℕ) : EReal :=
  entry (m (((0 : Dev nD).tc : Thread nD τ).loc main_arg0)) (m (((0 : Dev nD).tc : Thread nD τ).loc main_arg1))
    (m (((0 : Dev nD).tc : Thread nD τ).loc main_arg2)) b s n

/-- The projection of block `t`'s rows: sequence `t / 4`, rows from `512 (t % 4)`. -/
theorem proj_blk (t : Fin cfg0.N) (r n : ℕ) (hr : r < 512) (hn : n < 2816) :
    proj (iblk m 0 0 t) (iblk m 0 1 t) (iblk m 0 2 t) r n = launched m (t.val / 4) (512 * (t.val % 4) + r) n := by
  have ht : t.val < 128 := t.isLt
  obtain ⟨i0, i1, i2, -⟩ := ix t
  unfold proj launched entry
  refine Finset.sum_congr rfl fun k _ => ?_
  refine congrArg₂ (· * ·) ?_ ?_
  · refine (pay7_row _ _ _ k).trans (modulated_congr (fun j => ?_) (fun j => ?_) (fun j => ?_) k)
    · refine Eq.trans (congrArg (V m 0 main_v3) (a₂ := ix2 ⟨t.val * 512 + r, by omega⟩ j) (funext fun a => Fin.ext ?_)) ((V_x m _ j).trans
        (congrArg (m (((0 : Dev nD).tc : Thread nD τ).loc main_arg0)) (funext fun a => Fin.ext ?_)))
      · match a with
        | ⟨0, _⟩ => show cc0_transform_0 (grid0.coords t) 0 * 512 + 1 * (r % 512) = t.val * 512 + r; rw [i0]; show t.val * 512 + 1 * (r % 512) = _; omega
        | ⟨1, _⟩ => show cc0_transform_0 (grid0.coords t) 1 * 1024 + 1 * j.val = j.val; rw [i0]; show 0 * 1024 + 1 * j.val = _; omega
      · match a with
        | ⟨0, _⟩ => show (t.val * 512 + r) / 2048 = t.val / 4 % 32; omega
        | ⟨1, _⟩ => show (t.val * 512 + r) % 2048 = (512 * (t.val % 4) + r) % 2048; omega
        | ⟨2, _⟩ => rfl
    all_goals
      refine (congrArg (V m 0 main_arg1) (funext fun a => Fin.ext ?_)).trans (congrFun (V_main_arg1 m 0) _)
      match a with
      | ⟨0, _⟩ => show cc0_transform_1 (grid0.coords t) 0 * 1 + 1 * 0 = t.val / 4 % 32; rw [i1]; show t.val / 4 * 1 + 1 * 0 = _; omega
      | ⟨1, _⟩ => show cc0_transform_1 (grid0.coords t) 1 * 6 + 1 * _ = _; rw [i1]; rfl
      | ⟨2, _⟩ => show cc0_transform_1 (grid0.coords t) 2 * 1024 + 1 * j.val = j.val; rw [i1]; show 0 * 1024 + 1 * j.val = _; omega
  · have hf : factor n = factor (n % 2816) := by rw [Nat.mod_eq_of_lt hn]
    rw [hf]
    refine Eq.trans (congrArg (V m 0 main_v7) (funext fun a => Fin.ext ?_)) (V_w m k ⟨n % 2816, Nat.mod_lt _ (by decide)⟩)
    match a with
    | ⟨0, _⟩ => show cc0_transform_2 (grid0.coords t) 0 * 1024 + 1 * k.val = k.val; rw [i2]; show 0 * 1024 + 1 * k.val = _; omega
    | ⟨1, _⟩ => show cc0_transform_2 (grid0.coords t) 1 * 2816 + 1 * (n % 2816) = n % 2816; rw [i2]; show 0 * 2816 + 1 * (n % 2816) = _; omega

/-- The first result: block after block, the projection. -/
theorem arr1 : (dats m 0 0).arrAt 3 cfg0.N = (fun j => launched m (j 1).val (j 2).val (128 * (j 0).val + (j 3).val) : Vec Ideal S18x32x2048x128 .bf16) := by
  refine Pipeline.Dat.arrAt_eq_of_cover _ 3 _ (fun t _ => funext fun (y : S18x1x512x128.Idx) => ?_) fun (j : S18x32x2048x128.Idx) => ?_
  · have ht : t.val < 128 := t.isLt
    have y0 : (y 0).val < 18 := (y 0).isLt
    have y1 : (y 1).val < 1 := (y 1).isLt
    have y2 : (y 2).val < 512 := (y 2).isLt
    have y3 : (y 3).val < 128 := (y 3).isLt
    have e := (ix t).2.2.2.1
    refine (congrFun (Value.flushed3_A m 0 t) y).trans ((congrFun (congrArg ((cfg0.win 3).cut (grid0.coords t)) (out1 ..)) y).trans ?_)
    refine (proj_blk m t ((y 2).val) (128 * (y 0).val + (y 3).val) (by omega) (by omega)).trans ?_
    show _ = launched m (cc0_transform_3 (grid0.coords t) 1 * 1 + 1 * (y 1).val) (cc0_transform_3 (grid0.coords t) 2 * 512 + 1 * (y 2).val) (128 * (cc0_transform_3 (grid0.coords t) 0 * 18 + 1 * (y 0).val) + (cc0_transform_3 (grid0.coords t) 3 * 128 + 1 * (y 3).val))
    rw [e]
    refine congr (congrArg₂ (launched m) ?_ ?_) ?_
    all_goals
      simp only [Matrix.cons_val_zero, Matrix.cons_val_one, Matrix.cons_val]
      omega
  · have j0 : (j 0).val < 18 := (j 0).isLt
    have j1 : (j 1).val < 32 := (j 1).isLt
    have j2 : (j 2).val < 2048 := (j 2).isLt
    have j3 : (j 3).val < 128 := (j 3).isLt
    have ht : 4 * (j 1).val + (j 2).val / 512 < grid0.N := show 4 * (j 1).val + (j 2).val / 512 < 128 by omega
    refine ⟨⟨4 * (j 1).val + (j 2).val / 512, ht⟩, (flush _).1, ?_⟩
    have e := (ix ⟨4 * (j 1).val + (j 2).val / 512, ht⟩).2.2.2.1
    erw [View.set_slice_whole, Rect.mem_set_unit]
    intro a
    match a with
    | ⟨0, _⟩ =>
      show cc0_transform_3 (grid0.coords ⟨4 * (j 1).val + (j 2).val / 512, ht⟩) 0 * 18 ≤ (j 0).val
        ∧ (j 0).val < cc0_transform_3 (grid0.coords ⟨4 * (j 1).val + (j 2).val / 512, ht⟩) 0 * 18 + 18
      rw [e]
      show 0 * 18 ≤ (j 0).val ∧ (j 0).val < 0 * 18 + 18
      omega
    | ⟨1, _⟩ =>
      show cc0_transform_3 (grid0.coords ⟨4 * (j 1).val + (j 2).val / 512, ht⟩) 1 * 1 ≤ (j 1).val
        ∧ (j 1).val < cc0_transform_3 (grid0.coords ⟨4 * (j 1).val + (j 2).val / 512, ht⟩) 1 * 1 + 1
      rw [e]
      show (4 * (j 1).val + (j 2).val / 512) / 4 * 1 ≤ (j 1).val ∧ (j 1).val < (4 * (j 1).val + (j 2).val / 512) / 4 * 1 + 1
      omega
    | ⟨2, _⟩ =>
      show cc0_transform_3 (grid0.coords ⟨4 * (j 1).val + (j 2).val / 512, ht⟩) 2 * 512 ≤ (j 2).val
        ∧ (j 2).val < cc0_transform_3 (grid0.coords ⟨4 * (j 1).val + (j 2).val / 512, ht⟩) 2 * 512 + 512
      rw [e]
      show (4 * (j 1).val + (j 2).val / 512) % 4 * 512 ≤ (j 2).val ∧ (j 2).val < (4 * (j 1).val + (j 2).val / 512) % 4 * 512 + 512
      omega
    | ⟨3, _⟩ =>
      show cc0_transform_3 (grid0.coords ⟨4 * (j 1).val + (j 2).val / 512, ht⟩) 3 * 128 ≤ (j 3).val
        ∧ (j 3).val < cc0_transform_3 (grid0.coords ⟨4 * (j 1).val + (j 2).val / 512, ht⟩) 3 * 128 + 128
      rw [e]
      show 0 * 128 ≤ (j 3).val ∧ (j 3).val < 0 * 128 + 128
      omega

/-- The second. -/
theorem arr4 : (dats m 0 0).arrAt 4 cfg0.N = (fun j => launched m (j 1).val ((j 2).val + 4 * (j 3).val) (128 * (j 0).val + (j 4).val) : Vec Ideal S18x32x4x512x128 .bf16) := by
  refine Pipeline.Dat.arrAt_eq_of_cover _ 4 _ (fun t _ => funext fun (y : S18x1x4x128x128.Idx) => ?_) fun (j : S18x32x4x512x128.Idx) => ?_
  · have ht : t.val < 128 := t.isLt
    have y0 : (y 0).val < 18 := (y 0).isLt
    have y1 : (y 1).val < 1 := (y 1).isLt
    have y2 : (y 2).val < 4 := (y 2).isLt
    have y3 : (y 3).val < 128 := (y 3).isLt
    have y4 : (y 4).val < 128 := (y 4).isLt
    have e := (ix t).2.2.2.2.1
    refine (congrFun (Value.flushed4_A m 0 t) y).trans ((congrFun (congrArg ((cfg0.win 4).cut (grid0.coords t)) (out4 ..)) y).trans ?_)
    refine (proj_blk m t ((y 2).val + 4 * (y 3).val) (128 * (y 0).val + (y 4).val) (by omega) (by omega)).trans ?_
    show _ = launched m (cc0_transform_4 (grid0.coords t) 1 * 1 + 1 * (y 1).val) ((cc0_transform_4 (grid0.coords t) 2 * 4 + 1 * (y 2).val) + 4 * (cc0_transform_4 (grid0.coords t) 3 * 128 + 1 * (y 3).val)) (128 * (cc0_transform_4 (grid0.coords t) 0 * 18 + 1 * (y 0).val) + (cc0_transform_4 (grid0.coords t) 4 * 128 + 1 * (y 4).val))
    rw [e]
    refine congr (congrArg₂ (launched m) ?_ ?_) ?_
    all_goals
      simp only [Matrix.cons_val_zero, Matrix.cons_val_one, Matrix.cons_val]
      omega
  · have j0 : (j 0).val < 18 := (j 0).isLt
    have j1 : (j 1).val < 32 := (j 1).isLt
    have j2 : (j 2).val < 4 := (j 2).isLt
    have j3 : (j 3).val < 512 := (j 3).isLt
    have j4 : (j 4).val < 128 := (j 4).isLt
    have ht : 4 * (j 1).val + (j 3).val / 128 < grid0.N := show 4 * (j 1).val + (j 3).val / 128 < 128 by omega
    refine ⟨⟨4 * (j 1).val + (j 3).val / 128, ht⟩, (flush _).2.1, ?_⟩
    have e := (ix ⟨4 * (j 1).val + (j 3).val / 128, ht⟩).2.2.2.2.1
    erw [View.set_slice_whole, Rect.mem_set_unit]
    intro a
    match a with
    | ⟨0, _⟩ =>
      show cc0_transform_4 (grid0.coords ⟨4 * (j 1).val + (j 3).val / 128, ht⟩) 0 * 18 ≤ (j 0).val
        ∧ (j 0).val < cc0_transform_4 (grid0.coords ⟨4 * (j 1).val + (j 3).val / 128, ht⟩) 0 * 18 + 18
      rw [e]
      show 0 * 18 ≤ (j 0).val ∧ (j 0).val < 0 * 18 + 18
      omega
    | ⟨1, _⟩ =>
      show cc0_transform_4 (grid0.coords ⟨4 * (j 1).val + (j 3).val / 128, ht⟩) 1 * 1 ≤ (j 1).val
        ∧ (j 1).val < cc0_transform_4 (grid0.coords ⟨4 * (j 1).val + (j 3).val / 128, ht⟩) 1 * 1 + 1
      rw [e]
      show (4 * (j 1).val + (j 3).val / 128) / 4 * 1 ≤ (j 1).val ∧ (j 1).val < (4 * (j 1).val + (j 3).val / 128) / 4 * 1 + 1
      omega
    | ⟨2, _⟩ =>
      show cc0_transform_4 (grid0.coords ⟨4 * (j 1).val + (j 3).val / 128, ht⟩) 2 * 4 ≤ (j 2).val
        ∧ (j 2).val < cc0_transform_4 (grid0.coords ⟨4 * (j 1).val + (j 3).val / 128, ht⟩) 2 * 4 + 4
      rw [e]
      show 0 * 4 ≤ (j 2).val ∧ (j 2).val < 0 * 4 + 4
      omega
    | ⟨3, _⟩ =>
      show cc0_transform_4 (grid0.coords ⟨4 * (j 1).val + (j 3).val / 128, ht⟩) 3 * 128 ≤ (j 3).val
        ∧ (j 3).val < cc0_transform_4 (grid0.coords ⟨4 * (j 1).val + (j 3).val / 128, ht⟩) 3 * 128 + 128
      rw [e]
      show (4 * (j 1).val + (j 3).val / 128) % 4 * 128 ≤ (j 3).val ∧ (j 3).val < (4 * (j 1).val + (j 3).val / 128) % 4 * 128 + 128
      omega
    | ⟨4, _⟩ =>
      show cc0_transform_4 (grid0.coords ⟨4 * (j 1).val + (j 3).val / 128, ht⟩) 4 * 128 ≤ (j 4).val
        ∧ (j 4).val < cc0_transform_4 (grid0.coords ⟨4 * (j 1).val + (j 3).val / 128, ht⟩) 4 * 128 + 128
      rw [e]
      show 0 * 128 ≤ (j 4).val ∧ (j 4).val < 0 * 128 + 128
      omega

/-- The third. -/
theorem arr16 : (dats m 0 0).arrAt 5 cfg0.N = (fun j => launched m (j 1).val ((j 2).val + 16 * (j 3).val) (128 * (j 0).val + (j 4).val) : Vec Ideal S18x32x16x128x128 .bf16) := by
  refine Pipeline.Dat.arrAt_eq_of_cover _ 5 _ (fun t _ => funext fun (y : S18x1x16x32x128.Idx) => ?_) fun (j : S18x32x16x128x128.Idx) => ?_
  · have ht : t.val < 128 := t.isLt
    have y0 : (y 0).val < 18 := (y 0).isLt
    have y1 : (y 1).val < 1 := (y 1).isLt
    have y2 : (y 2).val < 16 := (y 2).isLt
    have y3 : (y 3).val < 32 := (y 3).isLt
    have y4 : (y 4).val < 128 := (y 4).isLt
    have e := (ix t).2.2.2.2.2.1
    refine (congrFun (Value.flushed5_A m 0 t) y).trans ((congrFun (congrArg ((cfg0.win 5).cut (grid0.coords t)) (out16 ..)) y).trans ?_)
    refine (proj_blk m t ((y 2).val + 16 * (y 3).val) (128 * (y 0).val + (y 4).val) (by omega) (by omega)).trans ?_
    show _ = launched m (cc0_transform_5 (grid0.coords t) 1 * 1 + 1 * (y 1).val) ((cc0_transform_5 (grid0.coords t) 2 * 16 + 1 * (y 2).val) + 16 * (cc0_transform_5 (grid0.coords t) 3 * 32 + 1 * (y 3).val)) (128 * (cc0_transform_5 (grid0.coords t) 0 * 18 + 1 * (y 0).val) + (cc0_transform_5 (grid0.coords t) 4 * 128 + 1 * (y 4).val))
    rw [e]
    refine congr (congrArg₂ (launched m) ?_ ?_) ?_
    all_goals
      simp only [Matrix.cons_val_zero, Matrix.cons_val_one, Matrix.cons_val]
      omega
  · have j0 : (j 0).val < 18 := (j 0).isLt
    have j1 : (j 1).val < 32 := (j 1).isLt
    have j2 : (j 2).val < 16 := (j 2).isLt
    have j3 : (j 3).val < 128 := (j 3).isLt
    have j4 : (j 4).val < 128 := (j 4).isLt
    have ht : 4 * (j 1).val + (j 3).val / 32 < grid0.N := show 4 * (j 1).val + (j 3).val / 32 < 128 by omega
    refine ⟨⟨4 * (j 1).val + (j 3).val / 32, ht⟩, (flush _).2.2.1, ?_⟩
    have e := (ix ⟨4 * (j 1).val + (j 3).val / 32, ht⟩).2.2.2.2.2.1
    erw [View.set_slice_whole, Rect.mem_set_unit]
    intro a
    match a with
    | ⟨0, _⟩ =>
      show cc0_transform_5 (grid0.coords ⟨4 * (j 1).val + (j 3).val / 32, ht⟩) 0 * 18 ≤ (j 0).val
        ∧ (j 0).val < cc0_transform_5 (grid0.coords ⟨4 * (j 1).val + (j 3).val / 32, ht⟩) 0 * 18 + 18
      rw [e]
      show 0 * 18 ≤ (j 0).val ∧ (j 0).val < 0 * 18 + 18
      omega
    | ⟨1, _⟩ =>
      show cc0_transform_5 (grid0.coords ⟨4 * (j 1).val + (j 3).val / 32, ht⟩) 1 * 1 ≤ (j 1).val
        ∧ (j 1).val < cc0_transform_5 (grid0.coords ⟨4 * (j 1).val + (j 3).val / 32, ht⟩) 1 * 1 + 1
      rw [e]
      show (4 * (j 1).val + (j 3).val / 32) / 4 * 1 ≤ (j 1).val ∧ (j 1).val < (4 * (j 1).val + (j 3).val / 32) / 4 * 1 + 1
      omega
    | ⟨2, _⟩ =>
      show cc0_transform_5 (grid0.coords ⟨4 * (j 1).val + (j 3).val / 32, ht⟩) 2 * 16 ≤ (j 2).val
        ∧ (j 2).val < cc0_transform_5 (grid0.coords ⟨4 * (j 1).val + (j 3).val / 32, ht⟩) 2 * 16 + 16
      rw [e]
      show 0 * 16 ≤ (j 2).val ∧ (j 2).val < 0 * 16 + 16
      omega
    | ⟨3, _⟩ =>
      show cc0_transform_5 (grid0.coords ⟨4 * (j 1).val + (j 3).val / 32, ht⟩) 3 * 32 ≤ (j 3).val
        ∧ (j 3).val < cc0_transform_5 (grid0.coords ⟨4 * (j 1).val + (j 3).val / 32, ht⟩) 3 * 32 + 32
      rw [e]
      show (4 * (j 1).val + (j 3).val / 32) % 4 * 32 ≤ (j 3).val ∧ (j 3).val < (4 * (j 1).val + (j 3).val / 32) % 4 * 32 + 32
      omega
    | ⟨4, _⟩ =>
      show cc0_transform_5 (grid0.coords ⟨4 * (j 1).val + (j 3).val / 32, ht⟩) 4 * 128 ≤ (j 4).val
        ∧ (j 4).val < cc0_transform_5 (grid0.coords ⟨4 * (j 1).val + (j 3).val / 32, ht⟩) 4 * 128 + 128
      rw [e]
      show 0 * 128 ≤ (j 4).val ∧ (j 4).val < 0 * 128 + 128
      omega

/-- The fourth. -/
theorem arrR : (dats m 0 0).arrAt 6 cfg0.N = (fun j => launched m ((j 0).val / 2048) ((j 0).val % 2048) (2304 + (j 1).val) : Vec Ideal S65536x512 .f32) := by
  refine Pipeline.Dat.arrAt_eq_of_cover _ 6 _ (fun t _ => funext fun (y : S512x512.Idx) => ?_) fun (j : S65536x512.Idx) => ?_
  · have ht : t.val < 128 := t.isLt
    have y0 : (y 0).val < 512 := (y 0).isLt
    have y1 : (y 1).val < 512 := (y 1).isLt
    have e := (ix t).2.2.2.2.2.2
    refine (congrFun (Value.flushed6_A m 0 t) y).trans ((congrFun (congrArg ((cfg0.win 6).cut (grid0.coords t)) (outR ..)) y).trans ?_)
    refine (proj_blk m t ((y 0).val) (2304 + (y 1).val) (by omega) (by omega)).trans ?_
    show _ = launched m ((cc0_transform_6 (grid0.coords t) 0 * 512 + 1 * (y 0).val) / 2048) ((cc0_transform_6 (grid0.coords t) 0 * 512 + 1 * (y 0).val) % 2048) (2304 + (cc0_transform_6 (grid0.coords t) 1 * 512 + 1 * (y 1).val))
    rw [e]
    refine congr (congrArg₂ (launched m) ?_ ?_) ?_
    all_goals
      simp only [Matrix.cons_val_zero, Matrix.cons_val_one, Matrix.cons_val]
      omega
  · have j0 : (j 0).val < 65536 := (j 0).isLt
    have j1 : (j 1).val < 512 := (j 1).isLt
    have ht : (j 0).val / 512 < grid0.N := show (j 0).val / 512 < 128 by omega
    refine ⟨⟨(j 0).val / 512, ht⟩, (flush _).2.2.2, ?_⟩
    have e := (ix ⟨(j 0).val / 512, ht⟩).2.2.2.2.2.2
    erw [View.set_slice_whole, Rect.mem_set_unit]
    intro a
    match a with
    | ⟨0, _⟩ =>
      show cc0_transform_6 (grid0.coords ⟨(j 0).val / 512, ht⟩) 0 * 512 ≤ (j 0).val
        ∧ (j 0).val < cc0_transform_6 (grid0.coords ⟨(j 0).val / 512, ht⟩) 0 * 512 + 512
      rw [e]
      show ((j 0).val / 512) * 512 ≤ (j 0).val ∧ (j 0).val < ((j 0).val / 512) * 512 + 512
      omega
    | ⟨1, _⟩ =>
      show cc0_transform_6 (grid0.coords ⟨(j 0).val / 512, ht⟩) 1 * 512 ≤ (j 1).val
        ∧ (j 1).val < cc0_transform_6 (grid0.coords ⟨(j 0).val / 512, ht⟩) 1 * 512 + 512
      rw [e]
      show 0 * 512 ≤ (j 1).val ∧ (j 1).val < 0 * 512 + 512
      omega

/-- The launch's results, all four, and its arguments kept. -/
theorem run_value (ρ : Dev nD → PrngReg) : θ_run defs (onTc (τ := τ) (main (F := Ideal))) ⟨m, fun _ => 0, ρ⟩ fun r => ∀ c : Dev nD,
      r.2.mem ((c.tc : Thread nD τ).loc main_v8_0)
        = (fun j => launched m (j 1).val (j 2).val (128 * (j 0).val + (j 3).val) : Vec Ideal S18x32x2048x128 .bf16)
      ∧ r.2.mem ((c.tc : Thread nD τ).loc main_v8_1)
        = (fun j => launched m (j 1).val ((j 2).val + 4 * (j 3).val) (128 * (j 0).val + (j 4).val) : Vec Ideal S18x32x4x512x128 .bf16)
      ∧ r.2.mem ((c.tc : Thread nD τ).loc main_v8_2)
        = (fun j => launched m (j 1).val ((j 2).val + 16 * (j 3).val) (128 * (j 0).val + (j 4).val) : Vec Ideal S18x32x16x128x128 .bf16)
      ∧ r.2.mem ((c.tc : Thread nD τ).loc main_v8_3)
        = (fun j => launched m ((j 0).val / 2048) ((j 0).val % 2048) (2304 + (j 1).val) : Vec Ideal S65536x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run_blocks m ρ)
  obtain rfl : c = 0 := Subsingleton.elim c 0
  obtain ⟨h0, h1, h2, h3, hk⟩ := h 0
  exact ⟨h0.trans (arr1 m), h1.trans (arr4 m), h2.trans (arr16 m), h3.trans (arrR m), hk⟩

end Cert.Kernel2Ideal.InProj
end
-- ==== Proof.InReference.lean ====
/- The reference's four results of the input projection, element by element. -/
module

public import proofs.«01_k».proof.Proof.Gen.Reference2Ideal.Run
public import proofs.«01_k».proof.Proof.InSpec
public import Idealize.ShloMosaic.Lib.WordCmp
public import Idealize.ShloMosaic.Lib.Tactic.CleanTypes

@[expose] public section

set_option maxRecDepth 16384

noncomputable section

namespace Cert.Reference2Ideal.InProj

open Idealize.ShloMosaic Idealize.ShloMosaic.TcCoe Idealize.SL.Sem
open Cert.Reference2Ideal Cert.Reference2Ideal.Gen Cert.Reference2Ideal.Value
open Cert.Kernel2Ideal.InProj (centred modulated factor entry)

variable (m : (ℓ : Loc nD τ sig) → Buf (Elt Ideal) ℓ) (ρ : Dev nD → PrngReg)

/-- The launch's entry. -/
def launched (b s n : ℕ) : EReal :=
  entry (m (((0 : Dev nD).tc : Thread nD τ).loc main_arg0)) (m (((0 : Dev nD).tc : Thread nD τ).loc main_arg1))
    (m (((0 : Dev nD).tc : Thread nD τ).loc main_arg2)) b s n

/-- The columns' factors as the reference picks them. -/
theorem factor_eq (n : Fin 2816) :
    id (select (cmpi .slt (iotaInDim S2816 32 0) (broadcastInDim S2816 ![] bcast_S_S2816 (constantI S_ 32 768#32)))
      (broadcastInDim S2816 ![] bcast_S_S2816 (constant (F := Ideal) S_ .f32 0x3E38AA3B#32))
      (broadcastInDim S2816 ![] bcast_S_S2816 (constant (F := Ideal) S_ .f32 0x3F800000#32))) (ix1 n) = factor n.val := by
  have hn := n.isLt
  show Scalar.select (IntOp.cmpi .slt (BitVec.ofNat 32 n.val) 768#32) (Ideal.ofBits .f32 0x3E38AA3B#32) (Ideal.ofBits .f32 0x3F800000#32) = _
  have ht : (BitVec.ofNat 32 n.val).toInt = n.val := by
    rw [BitVec.toInt_eq_toNat_cond, BitVec.toNat_ofNat, Nat.mod_eq_of_lt (by omega), if_pos (by omega)]
  rw [WordCmp.cmpi_slt_eq, Scalar.select_ofBool, ht, Ideal.ofBits_one_f32]
  unfold factor
  refine if_congr ?_ rfl rfl
  rw [decide_eq_true_iff]
  show (n.val : ℤ) < 768 ↔ _
  omega

theorem launched_eq {b : Fin 32} {s : Fin 2048} {n : Fin 2816} {B S N : ℕ} (hB : b.val = B) (hS : s.val = S) (hN : n.val = N)
    {φ : EReal} (hφ : φ = factor n.val) :
    (∑ k : Fin 1024, @HMul.hMul EReal EReal EReal _ (modulated (fun j => m (((0 : Dev nD).tc : Thread nD τ).loc main_arg0) (ix3 b s j))
        (fun j => m (((0 : Dev nD).tc : Thread nD τ).loc main_arg1) (ix3 b 0 j))
        (fun j => m (((0 : Dev nD).tc : Thread nD τ).loc main_arg1) (ix3 b 1 j)) k)
      (@HMul.hMul EReal EReal EReal _ (m (((0 : Dev nD).tc : Thread nD τ).loc main_arg2) (ix2 k n)) φ)) = launched m B S N := by
  subst hB hS hN hφ
  have e0 : (⟨b.val % 32, Nat.mod_lt _ (by decide)⟩ : Fin 32) = b := Fin.ext (Nat.mod_eq_of_lt b.isLt)
  have e1 : (⟨s.val % 2048, Nat.mod_lt _ (by decide)⟩ : Fin 2048) = s := Fin.ext (Nat.mod_eq_of_lt s.isLt)
  have e2 : (⟨n.val % 2816, Nat.mod_lt _ (by decide)⟩ : Fin 2816) = n := Fin.ext (Nat.mod_eq_of_lt n.isLt)
  unfold launched entry
  rw [e0, e1, e2]

theorem run_value : θ_run defs (onTc (τ := τ) (main (F := Ideal))) ⟨m, fun _ => 0, ρ⟩ fun r => ∀ c : Dev nD,
      r.2.mem ((c.tc : Thread nD τ).loc main_v36)
        = (fun j => launched m (j 1).val (j 2).val (128 * (j 0).val + (j 3).val) : Vec Ideal S18x32x2048x128 .bf16)
      ∧ r.2.mem ((c.tc : Thread nD τ).loc main_v38)
        = (fun j => launched m (j 1).val ((j 2).val + 4 * (j 3).val) (128 * (j 0).val + (j 4).val) : Vec Ideal S18x32x4x512x128 .bf16)
      ∧ r.2.mem ((c.tc : Thread nD τ).loc main_v40)
        = (fun j => launched m (j 1).val ((j 2).val + 16 * (j 3).val) (128 * (j 0).val + (j 4).val) : Vec Ideal S18x32x16x128x128 .bf16)
      ∧ r.2.mem ((c.tc : Thread nD τ).loc main_v42)
        = (fun j => launched m ((j 0).val / 2048) ((j 0).val % 2048) (2304 + (j 1).val) : Vec Ideal S65536x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run m ρ)
  obtain rfl : c = 0 := Subsingleton.elim c 0
  obtain ⟨h0, h1, h2, h3, hk⟩ := h 0
  refine ⟨h0.trans (funext fun (j : S18x32x2048x128.Idx) => ?_), h1.trans (funext fun (j : S18x32x4x512x128.Idx) => ?_),
    h2.trans (funext fun (j : S18x32x16x128x128.Idx) => ?_), h3.trans (funext fun (j : S65536x512.Idx) => ?_), hk⟩
  all_goals
    clear h h0 h1 h2 h3 hk
    clean_types
    pointwise
    refine launched_eq m ?_ ?_ ?_ (factor_eq _)
    all_goals
      first
        | rfl
        | exact congrArg (· + _) (Nat.mul_comm _ _)
        | exact (Nat.add_comm _ _).trans (congrArg (_ + ·) (Nat.mul_comm _ _))

end Cert.Reference2Ideal.InProj
end
-- ==== Proof.Mods.lean ====
/- The modulations: the kernel's array over the extended reals, and the reference's, entry by entry. -/
module

public import proofs.«01_k».proof.Proof.Gen.Kernel3Ideal.Value
public import proofs.«01_k».proof.Proof.Gen.Reference3Ideal.Run
public import Idealize.ShloMosaic.Lib.Claim
public import Idealize.ShloMosaic.Lib.Pointwise
public import Idealize.ShloMosaic.Lib.Pipeline.ValueKit.Acc
public import Idealize.ShloMosaic.Lib.Tactic.CleanTypes

@[expose] public section

set_option maxRecDepth 16384

noncomputable section

open Idealize.ShloMosaic Idealize.ShloMosaic.TcCoe Idealize.SL.Sem

namespace Cert.Kernel3Ideal.Mods

open Cert.Kernel3Ideal Cert.Kernel3Ideal.Gen

/-- A modulation: the conditioning through `t / (1 + e⁻ᵗ)`, times a column of weights, plus its bias. -/
def modulation (c w : Fin 1024 → EReal) (b : EReal) : EReal := (∑ k, c k * Ideal.logistic (c k) * w k) + b

theorem pay1_row (x0 : Vec Ideal S32x1024 .f32) (x1 : Vec Ideal S1x1024x1536 .f32) (x2 : Vec Ideal S1x1x1536 .f32) (r : Fin 32) (n : Fin 1536) :
    k0_pay1 x0 x1 x2 (ix3 0 r n) = modulation (fun k => x0 (ix2 r k)) (fun k => x1 (ix3 0 k n)) (x2 (ix3 0 0 n)) := by
  pointwise [k0_pay1, modulation]

variable (m : (ℓ : Loc nD τ sig) → Buf (Elt Ideal) ℓ)

/-- The launch's entry: layer, sequence, column. -/
def launched (l : Fin 4) (b : Fin 32) (n : Fin 6144) : EReal :=
  modulation (fun k => m (((0 : Dev nD).tc : Thread nD τ).loc main_arg0) (ix2 b k))
    (fun k => m (((0 : Dev nD).tc : Thread nD τ).loc main_arg1) (ix3 l k n)) (m (((0 : Dev nD).tc : Thread nD τ).loc main_arg2) (ix2 l n))

/-- The biases as the launch lays them. -/
theorem V_b (l : Fin 4) (n : Fin 6144) : V m 0 main_v0 (ix3 l 0 n) = m (((0 : Dev nD).tc : Thread nD τ).loc main_arg2) (ix2 l n) := by
  entry_read
  pointwise

theorem ix : ∀ t : Fin grid0.N, cc0_transform_0 (grid0.coords t) = ![0, 0] ∧ cc0_transform_1 (grid0.coords t) = ![t.val / 4, 0, t.val % 4]
    ∧ cc0_transform_2 (grid0.coords t) = ![t.val / 4, 0, t.val % 4] ∧ cc0_transform_3 (grid0.coords t) = ![t.val / 4, 0, t.val % 4]
    ∧ win0_3.flush t = true := by decide +kernel

theorem modulation_congr {c c' w w' : Fin 1024 → EReal} {b b' : EReal} (hc : ∀ k, c k = c' k) (hw : ∀ k, w k = w' k) (hb : b = b') :
    modulation c w b = modulation c' w' b' := by
  rw [funext hc, funext hw, hb]

/-- A block is its one store. -/
theorem out_eq (x0 : Vec Ideal S32x1024 .f32) (x1 : Vec Ideal S1x1024x1536 .f32) (x2 : Vec Ideal S1x1x1536 .f32) :
    out0_3 x0 x1 x2 = k0_pay1 x0 x1 x2 := by
  unfold out0_3
  rw [View.canon_unit_zero, View.ld_unit_zero, View.ld_unit_zero, View.ld_unit_zero]
  all_goals (funext a; fin_cases a <;> rfl)

/-- The kernel's array. -/
theorem arr : (dats m 0 0).arrAt 3 cfg0.N = (fun j => launched m (j 0) (j 1) (j 2) : Vec Ideal S4x32x6144 .f32) := by
  refine Pipeline.Dat.arrAt_eq_of_cover _ 3 _ (fun t _ => funext fun (y : S1x32x1536.Idx) => ?_) fun (j : S4x32x6144.Idx) => ?_
  · have ht : t.val < 16 := t.isLt
    have y0 : (y 0).val < 1 := (y 0).isLt
    have y1 : (y 1).val < 32 := (y 1).isLt
    have y2 : (y 2).val < 1536 := (y 2).isLt
    obtain ⟨i0, i1, i2, i3, -⟩ := ix t
    refine (congrFun (Value.flushed3 m 0 t) y).trans ((congrFun (congrArg ((cfg0.win 3).cut (grid0.coords t)) (out_eq ..)) y).trans ?_)
    refine (congrArg (k0_pay1 _ _ _) (a₂ := ix3 0 ⟨(y 1).val, y1⟩ ⟨(y 2).val, y2⟩) (funext fun a => Fin.ext ?_)).trans ?_
    · match a with
      | ⟨0, _⟩ => show (y 0).val = 0; omega
      | ⟨1, _⟩ => rfl
      | ⟨2, _⟩ => rfl
    refine (pay1_row _ _ _ _ _).trans ?_
    refine .trans (b := launched m ⟨t.val / 4, by omega⟩ ⟨(y 1).val, y1⟩ ⟨t.val % 4 * 1536 + (y 2).val, by omega⟩) (modulation_congr (fun k => ?_) (fun k => ?_) ?_) ?_
    · refine (congrArg (V m 0 main_arg0) (funext fun a => Fin.ext ?_)).trans (congrFun (V_main_arg0 m 0) _)
      match a with
      | ⟨0, _⟩ => show cc0_transform_0 (grid0.coords t) 0 * 32 + 1 * (y 1).val = (y 1).val; rw [i0]; show 0 * 32 + 1 * (y 1).val = _; omega
      | ⟨1, _⟩ => show cc0_transform_0 (grid0.coords t) 1 * 1024 + 1 * k.val = k.val; rw [i0]; show 0 * 1024 + 1 * k.val = _; omega
    · refine (congrArg (V m 0 main_arg1) (funext fun a => Fin.ext ?_)).trans (congrFun (V_main_arg1 m 0) _)
      match a with
      | ⟨0, _⟩ => show cc0_transform_1 (grid0.coords t) 0 * 1 + 1 * 0 = t.val / 4; rw [i1]; show t.val / 4 * 1 + 1 * 0 = _; omega
      | ⟨1, _⟩ => show cc0_transform_1 (grid0.coords t) 1 * 1024 + 1 * k.val = k.val; rw [i1]; show 0 * 1024 + 1 * k.val = _; omega
      | ⟨2, _⟩ => show cc0_transform_1 (grid0.coords t) 2 * 1536 + 1 * (y 2).val = t.val % 4 * 1536 + (y 2).val; rw [i1]; show t.val % 4 * 1536 + 1 * (y 2).val = _; omega
    · refine (congrArg (V m 0 main_v0) (funext fun a => Fin.ext ?_)).trans (V_b m ⟨t.val / 4, by omega⟩ ⟨t.val % 4 * 1536 + (y 2).val, by omega⟩)
      match a with
      | ⟨0, _⟩ => show cc0_transform_2 (grid0.coords t) 0 * 1 + 1 * 0 = t.val / 4; rw [i2]; show t.val / 4 * 1 + 1 * 0 = _; omega
      | ⟨1, _⟩ => show cc0_transform_2 (grid0.coords t) 1 * 1 + 1 * 0 = 0; rw [i2]; rfl
      | ⟨2, _⟩ => show cc0_transform_2 (grid0.coords t) 2 * 1536 + 1 * (y 2).val = t.val % 4 * 1536 + (y 2).val; rw [i2]; show t.val % 4 * 1536 + 1 * (y 2).val = _; omega
    · refine congr (congrArg₂ (launched m) (Fin.ext ?_) (Fin.ext ?_)) (Fin.ext ?_)
      · show t.val / 4 = cc0_transform_3 (grid0.coords t) 0 * 1 + 1 * (y 0).val; rw [i3]; show _ = t.val / 4 * 1 + 1 * (y 0).val; omega
      · show (y 1).val = cc0_transform_3 (grid0.coords t) 1 * 32 + 1 * (y 1).val; rw [i3]; show _ = 0 * 32 + 1 * (y 1).val; omega
      · show _ = cc0_transform_3 (grid0.coords t) 2 * 1536 + 1 * (y 2).val; rw [i3]; show t.val % 4 * 1536 + (y 2).val = t.val % 4 * 1536 + 1 * (y 2).val; omega
  · have j0 : (j 0).val < 4 := (j 0).isLt
    have j1 : (j 1).val < 32 := (j 1).isLt
    have j2 : (j 2).val < 6144 := (j 2).isLt
    have ht : 4 * (j 0).val + (j 2).val / 1536 < grid0.N := show 4 * (j 0).val + (j 2).val / 1536 < 16 by omega
    obtain ⟨-, -, -, e, hf⟩ := ix ⟨4 * (j 0).val + (j 2).val / 1536, ht⟩
    refine ⟨⟨4 * (j 0).val + (j 2).val / 1536, ht⟩, hf, ?_⟩
    erw [View.set_slice_whole, Rect.mem_set_unit]
    intro a
    match a with
    | ⟨0, _⟩ =>
      show cc0_transform_3 (grid0.coords ⟨4 * (j 0).val + (j 2).val / 1536, ht⟩) 0 * 1 ≤ (j 0).val
        ∧ (j 0).val < cc0_transform_3 (grid0.coords ⟨4 * (j 0).val + (j 2).val / 1536, ht⟩) 0 * 1 + 1
      rw [e]
      show (4 * (j 0).val + (j 2).val / 1536) / 4 * 1 ≤ (j 0).val ∧ (j 0).val < (4 * (j 0).val + (j 2).val / 1536) / 4 * 1 + 1
      omega
    | ⟨1, _⟩ =>
      show cc0_transform_3 (grid0.coords ⟨4 * (j 0).val + (j 2).val / 1536, ht⟩) 1 * 32 ≤ (j 1).val
        ∧ (j 1).val < cc0_transform_3 (grid0.coords ⟨4 * (j 0).val + (j 2).val / 1536, ht⟩) 1 * 32 + 32
      rw [e]
      show 0 * 32 ≤ (j 1).val ∧ (j 1).val < 0 * 32 + 32
      omega
    | ⟨2, _⟩ =>
      show cc0_transform_3 (grid0.coords ⟨4 * (j 0).val + (j 2).val / 1536, ht⟩) 2 * 1536 ≤ (j 2).val
        ∧ (j 2).val < cc0_transform_3 (grid0.coords ⟨4 * (j 0).val + (j 2).val / 1536, ht⟩) 2 * 1536 + 1536
      rw [e]
      show (4 * (j 0).val + (j 2).val / 1536) % 4 * 1536 ≤ (j 2).val ∧ (j 2).val < (4 * (j 0).val + (j 2).val / 1536) % 4 * 1536 + 1536
      omega

end Cert.Kernel3Ideal.Mods

namespace Cert.Reference3Ideal.Mods

open Cert.Reference3Ideal Cert.Reference3Ideal.Gen
open Cert.Kernel3Ideal.Mods (modulation)

variable (m : (ℓ : Loc nD τ sig) → Buf (Elt Ideal) ℓ) (ρ : Dev nD → PrngReg)

theorem run_value : θ_run defs (onTc (τ := τ) (main (F := Ideal))) ⟨m, fun _ => 0, ρ⟩ fun r => ∀ c : Dev nD,
      r.2.mem ((c.tc : Thread nD τ).loc main_v5) = (fun j => modulation (fun k => m ((c.tc : Thread nD τ).loc main_arg0) (ix2 (j 1) k))
        (fun k => m ((c.tc : Thread nD τ).loc main_arg1) (ix3 (j 0) k (j 2))) (m ((c.tc : Thread nD τ).loc main_arg2) (ix2 (j 0) (j 2))) : Vec Ideal S4x32x6144 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  refine ⟨(h c).1.trans (funext fun (j : S4x32x6144.Idx) => ?_), (h c).2⟩
  clear h
  clean_types
  pointwise [modulation]
  unfold Ideal.logistic
  exact congrArg (· + _) (Finset.sum_congr rfl fun _ _ => mul_comm (G := EReal) _ _)

end Cert.Reference3Ideal.Mods
end
-- ==== Proof.OutRows.lean ====
/- The output projection's tile of 512 rows: the normalized attention columns and the recurrent columns side by
   side, what the body makes of them, and the row block laid out as lines of 128. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Writes
public import Idealize.ShloMosaic.Lib.WholeRead
public import Idealize.ShloMosaic.Lib.VecWindow
public import Idealize.ShloMosaic.Lib.Pipeline.Value
public import Idealize.ShloMosaic.Lib.ValueIdxCore

@[expose] public section

set_option maxRecDepth 16384

noncomputable section

namespace Cert.Kernel4Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel4Ideal.Gen

variable {F : FTy → Type} [FloatOps F] [Named F]

local notation "𝕄" => MT nD τ sig Unit (Elt F) ℕ (UR sig nD τ) ℕ

/-- Head pair `j` of the attention block. -/
def slab (x : Vec F S6x512x128 .f32) (j : Fin 6) : Vec F S1x512x128 .f32 := fun y =>
  x (ix3 (n0 := 6) (n1 := 512) (n2 := 128) j (y 1) (y 2))

/-- The gains of head pair `j`. -/
def gain (x : Vec F S1x768 .f32) (j : Fin 6) : Vec F S1x128 .f32 := fun y =>
  x (ix2 (n0 := 1) (n1 := 768) (y 0) ⟨128 * j.val + (y 1).val, by have := j.isLt; have h : (y 1).val < 128 := (y 1).isLt; omega⟩)

/-- One over the root mean square of a row's attention columns. -/
def invOf (x : Vec F S6x512x128 .f32) : FVec F S512x1 .f32 :=
  k0_pay5 (k0_pay4 (slab x 0) (slab x 1) (slab x 2) (slab x 3) (slab x 4)) (slab x 5)

/-- The rows the output projection multiplies: 768 normalized attention columns, then 256 recurrent columns. -/
def catOf (x0 : Vec F S6x512x128 .f32) (x1 : Vec F S512x256 .bf16) (x4 : Vec F S1x768 .f32) : Vec F S512x1024 .bf16 := fun j =>
  if h : (j 1).val < 768 then
    k0_pay8 (invOf x0) (slab x0 ⟨(j 1).val / 128, by omega⟩) (gain x4 ⟨(j 1).val / 128, by omega⟩)
      (ix2 (n0 := 512) (n1 := 128) (j 0) ⟨(j 1).val % 128, Nat.mod_lt _ (by decide)⟩)
  else x1 (ix2 (n0 := 512) (n1 := 256) (j 0) ⟨(j 1).val - 768, by have := idx2_lt1 j; omega⟩)

/-- The residual row after the projection, centred. -/
def midOf (x0 : Vec F S6x512x128 .f32) (x1 : Vec F S512x256 .bf16) (x2 : Vec F S512x1024 .f32) (x3 : Vec F S1x6x1024 .f32)
    (x4 : Vec F S1x768 .f32) (x5 : Vec F S1024x1024 .bf16) : FVec F S512x1024 .f32 :=
  k0_pay14 (catOf x0 x1 x4) x5 x3 x2

/-- Line `8 r + s` of the block is columns `128 s … 128 s + 127` of row `r`. -/
def tileOf (y : FVec F S512x1024 .f32) : FVec F S4096x128 .f32 := fun j =>
  y (ix2 (n0 := 512) (n1 := 1024) ⟨(j 0).val / 8, by have := idx2_lt0 j; omega⟩
    ⟨(j 0).val % 8 * 128 + (j 1).val, by have := idx2_lt1 j; omega⟩)

/-- What the body leaves in the first result's block. -/
def x1Of (x0 : Vec F S6x512x128 .f32) (x1 : Vec F S512x256 .bf16) (x2 : Vec F S512x1024 .f32) (x3 : Vec F S1x6x1024 .f32)
    (x4 : Vec F S1x768 .f32) (x5 : Vec F S1024x1024 .bf16) (x6 x7 : Vec F S1x1024 .f32) : FVec F S512x1024 .f32 :=
  k0_pay15 (midOf x0 x1 x2 x3 x4 x5) x6 x7

/-- What the body leaves in the second result's block. -/
def u2Of (x0 : Vec F S6x512x128 .f32) (x1 : Vec F S512x256 .bf16) (x2 : Vec F S512x1024 .f32) (x3 : Vec F S1x6x1024 .f32)
    (x4 : Vec F S1x768 .f32) (x5 : Vec F S1024x1024 .bf16) (x6 x7 : Vec F S1x1024 .f32) : FVec F S4096x128 .f32 :=
  tileOf (k0_pay16 (k0_pay13 x3) (midOf x0 x1 x2 x3 x4 x5) x6 x7)

/-- A load of one head pair. -/
theorem ld_slab (m₀ : Memref sig .tc .vmem S6x512x128 .f32) (h : m₀.IsWhole) (x : Vec F S6x512x128 .f32) (j : Fin 6) (s : ℕ)
    (hs : s = j.val) (inb) :
    View.readAt (Elt F) m₀.view (Rect.unit (s := S6x512x128) ![s, 0, 0] S1x512x128.size inb).toLoadRect (h.unread x) = slab x j := by
  subst hs
  funext y
  rw [h.readAt_unread]
  have h0 : (y 0).val < 1 := (y 0).isLt
  refine congrArg x (funext fun a => Fin.ext ?_)
  match a with
  | ⟨0, _⟩ => show j.val + 1 * (y 0).val = j.val; omega
  | ⟨1, _⟩ => show 0 + 1 * (y 1).val = (y 1).val; omega
  | ⟨2, _⟩ => show 0 + 1 * (y 2).val = (y 2).val; omega

/-- A load of one head pair's gains. -/
theorem ld_gain (m₀ : Memref sig .tc .vmem S1x768 .f32) (h : m₀.IsWhole) (x : Vec F S1x768 .f32) (j : Fin 6) (o : ℕ)
    (ho : o = 128 * j.val) (inb) :
    View.readAt (Elt F) m₀.view (Rect.unit (s := S1x768) ![0, o] S1x128.size inb).toLoadRect (h.unread x) = gain x j := by
  subst ho
  funext y
  rw [h.readAt_unread]
  refine congrArg x (funext fun a => Fin.ext ?_)
  match a with
  | ⟨0, _⟩ => show 0 + 1 * (y 0).val = (y 0).val; omega
  | ⟨1, _⟩ => show 128 * j.val + 1 * (y 1).val = 128 * j.val + (y 1).val; omega

/-- A head pair's columns are its part of the row. -/
theorem head_catOf (x0 : Vec F S6x512x128 .f32) (x1 : Vec F S512x256 .bf16) (x4 : Vec F S1x768 .f32) (s : Fin 6) (o : ℕ)
    (ho : o = 128 * s.val) (inb) (z : S512x128.Idx) :
    k0_pay8 (invOf x0) (slab x0 s) (gain x4 s) z
      = catOf x0 x1 x4 ((Rect.unit (s := S512x1024) ![0, o] S512x128.size inb).emb z) := by
  have h1 : (z 1).val < 128 := (z 1).isLt
  have hs := s.isLt
  have e1 : (((Rect.unit (s := S512x1024) ![0, o] S512x128.size inb).emb z) 1).val = o + 1 * (z 1).val := rfl
  unfold catOf
  rw [dif_pos (by rw [e1]; omega)]
  have es : (⟨(((Rect.unit (s := S512x1024) ![0, o] S512x128.size inb).emb z) 1).val / 128, by rw [e1]; omega⟩ : Fin 6) = s :=
    Fin.ext (by show (((Rect.unit (s := S512x1024) ![0, o] S512x128.size inb).emb z) 1).val / 128 = s.val; rw [e1]; omega)
  rw [es]
  refine congrArg _ (funext fun a => Fin.ext ?_)
  match a with
  | ⟨0, _⟩ => show (z 0).val = 0 + 1 * (z 0).val; omega
  | ⟨1, _⟩ => show (z 1).val = (o + 1 * (z 1).val) % 128; omega

/-- The recurrent columns are the rest of the row. -/
theorem lru_catOf (x0 : Vec F S6x512x128 .f32) (x1 : Vec F S512x256 .bf16) (x4 : Vec F S1x768 .f32) (inb) (z : S512x256.Idx) :
    k0_pay12 x1 z = catOf x0 x1 x4 ((Rect.unit (s := S512x1024) ![0, 768] S512x256.size inb).emb z) := by
  have e1 : (((Rect.unit (s := S512x1024) ![0, 768] S512x256.size inb).emb z) 1).val = 768 + 1 * (z 1).val := rfl
  unfold catOf k0_pay12
  rw [shapeCast_self, dif_neg (by rw [e1]; omega)]
  refine congrArg x1 (funext fun a => Fin.ext ?_)
  match a with
  | ⟨0, _⟩ => show (z 0).val = 0 + 1 * (z 0).val; omega
  | ⟨1, _⟩ => show (z 1).val = 768 + 1 * (z 1).val - 768; omega

/-- The seven column blocks, stored side by side and read back, are the rows. -/
theorem readCov_cat (v : View sig .tc .vmem S512x1024 .bf16) (x0 : Vec F S6x512x128 .f32) (x1 : Vec F S512x256 .bf16) (x4 : Vec F S1x768 .f32) :
    v.readCov (Val := Elt F)
      [⟨Rect.unit (s := S512x1024) ![0, 768] S512x256.size inb_S512x1024_S512x256_0_768, k0_pay12 x1⟩,
       ⟨Rect.unit (s := S512x1024) ![0, 640] S512x128.size inb_S512x1024_S512x128_0_640, k0_pay11 (k0_pay5 (k0_pay4 (slab x0 0) (slab x0 1) (slab x0 2) (slab x0 3) (slab x0 4)) (slab x0 5)) (slab x0 5) (gain x4 5)⟩,
       ⟨Rect.unit (s := S512x1024) ![0, 512] S512x128.size inb_S512x1024_S512x128_0_512, k0_pay10 (k0_pay5 (k0_pay4 (slab x0 0) (slab x0 1) (slab x0 2) (slab x0 3) (slab x0 4)) (slab x0 5)) (slab x0 4) (gain x4 4)⟩,
       ⟨Rect.unit (s := S512x1024) ![0, 384] S512x128.size inb_S512x1024_S512x128_0_384, k0_pay9 (k0_pay5 (k0_pay4 (slab x0 0) (slab x0 1) (slab x0 2) (slab x0 3) (slab x0 4)) (slab x0 5)) (slab x0 3) (gain x4 3)⟩,
       ⟨Rect.unit (s := S512x1024) ![0, 256] S512x128.size inb_S512x1024_S512x128_0_256, k0_pay8 (k0_pay5 (k0_pay4 (slab x0 0) (slab x0 1) (slab x0 2) (slab x0 3) (slab x0 4)) (slab x0 5)) (slab x0 2) (gain x4 2)⟩,
       ⟨Rect.unit (s := S512x1024) ![0, 128] S512x128.size inb_S512x1024_S512x128_0_128, k0_pay7 (k0_pay4 (slab x0 0) (slab x0 1) (slab x0 2) (slab x0 3) (slab x0 4)) (slab x0 5) (slab x0 1) (gain x4 1)⟩,
       ⟨Rect.unit (s := S512x1024) ![0, 0] S512x128.size inb_S512x1024_S512x128_0_0, k0_pay6 (k0_pay4 (slab x0 0) (slab x0 1) (slab x0 2) (slab x0 3) (slab x0 4)) (slab x0 5) (slab x0 0) (gain x4 0)⟩]
      (Rect.unit (s := S512x1024) ![0, 0] S512x1024.size inb_S512x1024_S512x1024_0_0).toLoadRect
      = catOf x0 x1 x4 := by
  have cover : ∀ (w6 : FVec F S512x256 .bf16) (w5 w4 w3 w2 w1 w0 : FVec F S512x128 .bf16) (y : S512x1024.Idx), ∃ p ∈
      ([⟨Rect.unit (s := S512x1024) ![0, 768] S512x256.size inb_S512x1024_S512x256_0_768, w6⟩,
        ⟨Rect.unit (s := S512x1024) ![0, 640] S512x128.size inb_S512x1024_S512x128_0_640, w5⟩,
        ⟨Rect.unit (s := S512x1024) ![0, 512] S512x128.size inb_S512x1024_S512x128_0_512, w4⟩,
        ⟨Rect.unit (s := S512x1024) ![0, 384] S512x128.size inb_S512x1024_S512x128_0_384, w3⟩,
        ⟨Rect.unit (s := S512x1024) ![0, 256] S512x128.size inb_S512x1024_S512x128_0_256, w2⟩,
        ⟨Rect.unit (s := S512x1024) ![0, 128] S512x128.size inb_S512x1024_S512x128_0_128, w1⟩,
        ⟨Rect.unit (s := S512x1024) ![0, 0] S512x128.size inb_S512x1024_S512x128_0_0, w0⟩] : List (View.Piece (Elt F) S512x1024 .bf16)), y ∈ p.1.set := by
    intro w6 w5 w4 w3 w2 w1 w0 y
    have h0 := idx2_lt0 y
    have h1 := idx2_lt1 y
    have key : ∀ (o : ℕ) (inb), (y 1).val / 128 = o / 128 → o % 128 = 0 →
        y ∈ (Rect.unit (s := S512x1024) ![0, o] S512x128.size inb).set := by
      intro o inb hs ho
      rw [Rect.mem_set_unit]
      intro a
      match a with
      | ⟨0, _⟩ => exact ⟨Nat.zero_le _, by show (y 0).val < 0 + 512; omega⟩
      | ⟨1, _⟩ => exact ⟨by show o ≤ (y 1).val; omega, by show (y 1).val < o + 128; omega⟩
    have key6 : 768 ≤ (y 1).val → y ∈ (Rect.unit (s := S512x1024) ![0, 768] S512x256.size inb_S512x1024_S512x256_0_768).set := by
      intro hs
      rw [Rect.mem_set_unit]
      intro a
      match a with
      | ⟨0, _⟩ => exact ⟨Nat.zero_le _, by show (y 0).val < 0 + 512; omega⟩
      | ⟨1, _⟩ => exact ⟨hs, by show (y 1).val < 768 + 256; omega⟩
    obtain e | e | e | e | e | e | e : 768 ≤ (y 1).val ∨ (y 1).val / 128 = 5 ∨ (y 1).val / 128 = 4 ∨ (y 1).val / 128 = 3 ∨ (y 1).val / 128 = 2 ∨ (y 1).val / 128 = 1 ∨ (y 1).val / 128 = 0 := by omega
    · exact ⟨_, .head _, key6 e⟩
    · exact ⟨_, .tail _ (.head _), key 640 inb_S512x1024_S512x128_0_640 e rfl⟩
    · exact ⟨_, .tail _ (.tail _ (.head _)), key 512 inb_S512x1024_S512x128_0_512 e rfl⟩
    · exact ⟨_, .tail _ (.tail _ (.tail _ (.head _))), key 384 inb_S512x1024_S512x128_0_384 e rfl⟩
    · exact ⟨_, .tail _ (.tail _ (.tail _ (.tail _ (.head _)))), key 256 inb_S512x1024_S512x128_0_256 e rfl⟩
    · exact ⟨_, .tail _ (.tail _ (.tail _ (.tail _ (.tail _ (.head _))))), key 128 inb_S512x1024_S512x128_0_128 e rfl⟩
    · exact ⟨_, .tail _ (.tail _ (.tail _ (.tail _ (.tail _ (.tail _ (.head _)))))), key 0 inb_S512x1024_S512x128_0_0 e rfl⟩
  refine (View.readCov_eq_canon_ld v _ _ (cover _ _ _ _ _ _ _)).trans ?_
  refine (View.ld_unit_zero (S := S512x1024) (by funext a; match a with | ⟨0, _⟩ => rfl | ⟨1, _⟩ => rfl) _ _).trans ?_
  funext y
  refine View.canon_apply_of_pieces (Val := Elt F) (S := S512x1024) (catOf x0 x1 x4) _ ?_ y (cover _ _ _ _ _ _ _ y)
  intro p hp z
  simp only [List.mem_cons, List.not_mem_nil, _root_.or_false] at hp
  rcases hp with rfl | rfl | rfl | rfl | rfl | rfl | rfl
  · exact lru_catOf x0 x1 x4 inb_S512x1024_S512x256_0_768 z
  · exact head_catOf x0 x1 x4 5 640 rfl inb_S512x1024_S512x128_0_640 z
  · exact head_catOf x0 x1 x4 4 512 rfl inb_S512x1024_S512x128_0_512 z
  · exact head_catOf x0 x1 x4 3 384 rfl inb_S512x1024_S512x128_0_384 z
  · exact head_catOf x0 x1 x4 2 256 rfl inb_S512x1024_S512x128_0_256 z
  · exact head_catOf x0 x1 x4 1 128 rfl inb_S512x1024_S512x128_0_128 z
  · exact head_catOf x0 x1 x4 0 0 rfl inb_S512x1024_S512x128_0_0 z

/-- The strided store number `s` takes columns `128 s …` of the rows to the lines `≡ s mod 8`. -/
theorem slice_tileOf (y : FVec F S512x1024 .f32) (s o : ℕ) (ho : o = 128 * s) (hs : s < 8)
    (h : S512x1024.Slices ![0, o] S512x128) (inb) (sp) (x : S512x128.Idx) :
    extractStridedSlice S512x128 ![0, o] y h x
      = tileOf y ((⟨(⟨![s, 0], S512x128.size, ![8, 1], inb⟩ : LoadRect S4096x128), sp⟩ : Rect S4096x128).emb x) := by
  have h0 : (x 0).val < 512 := (x 0).isLt
  have h1 : (x 1).val < 128 := (x 1).isLt
  refine congrArg y (funext fun a => Fin.ext ?_)
  match a with
  | ⟨0, _⟩ => show 0 + (x 0).val = (s + 8 * (x 0).val) / 8; omega
  | ⟨1, _⟩ => show o + (x 1).val = (s + 8 * (x 0).val) % 8 * 128 + (0 + 1 * (x 1).val); omega

/-- The eight strided stores of the column blocks leave the rows, whatever the block held before. -/
theorem read_out (v : View sig .tc .vmem S4096x128 .f32) (f : v.ty.Contents (Elt F))
    (A : FVec F S6x1024 .f32) (M : FVec F S512x1024 .f32) (b g : Vec F S1x1024 .f32) :
    v.read (Elt F) (v.writes (Elt F) f
      [⟨⟨⟨![7, 0], S512x128.size, ![8, 1], inb_S4096x128_S512x128_7_0_s_8_1⟩, spos_8_1⟩, k0_pay24 (k0_pay16 A M b g)⟩,
       ⟨⟨⟨![6, 0], S512x128.size, ![8, 1], inb_S4096x128_S512x128_6_0_s_8_1⟩, spos_8_1⟩, k0_pay23 (k0_pay16 A M b g)⟩,
       ⟨⟨⟨![5, 0], S512x128.size, ![8, 1], inb_S4096x128_S512x128_5_0_s_8_1⟩, spos_8_1⟩, k0_pay22 (k0_pay16 A M b g)⟩,
       ⟨⟨⟨![4, 0], S512x128.size, ![8, 1], inb_S4096x128_S512x128_4_0_s_8_1⟩, spos_8_1⟩, k0_pay21 (k0_pay16 A M b g)⟩,
       ⟨⟨⟨![3, 0], S512x128.size, ![8, 1], inb_S4096x128_S512x128_3_0_s_8_1⟩, spos_8_1⟩, k0_pay20 (k0_pay16 A M b g)⟩,
       ⟨⟨⟨![2, 0], S512x128.size, ![8, 1], inb_S4096x128_S512x128_2_0_s_8_1⟩, spos_8_1⟩, k0_pay19 (k0_pay16 A M b g)⟩,
       ⟨⟨⟨![1, 0], S512x128.size, ![8, 1], inb_S4096x128_S512x128_1_0_s_8_1⟩, spos_8_1⟩, k0_pay18 (k0_pay16 A M b g)⟩,
       ⟨⟨⟨![0, 0], S512x128.size, ![8, 1], inb_S4096x128_S512x128_0_0_s_8_1⟩, spos_8_1⟩, k0_pay17 A M b g⟩])
      = tileOf (k0_pay16 A M b g) := by
  funext y
  refine View.read_writes_apply_of_pieces v f (tileOf (k0_pay16 A M b g)) _ ?_ y ?_
  · intro p hp x
    simp only [List.mem_cons, List.not_mem_nil, _root_.or_false] at hp
    rcases hp with rfl | rfl | rfl | rfl | rfl | rfl | rfl | rfl
    · exact slice_tileOf (k0_pay16 A M b g) 7 896 rfl (by decide) slices_S512x1024_o0_896_S512x128 _ _ x
    · exact slice_tileOf (k0_pay16 A M b g) 6 768 rfl (by decide) slices_S512x1024_o0_768_S512x128 _ _ x
    · exact slice_tileOf (k0_pay16 A M b g) 5 640 rfl (by decide) slices_S512x1024_o0_640_S512x128 _ _ x
    · exact slice_tileOf (k0_pay16 A M b g) 4 512 rfl (by decide) slices_S512x1024_o0_512_S512x128 _ _ x
    · exact slice_tileOf (k0_pay16 A M b g) 3 384 rfl (by decide) slices_S512x1024_o0_384_S512x128 _ _ x
    · exact slice_tileOf (k0_pay16 A M b g) 2 256 rfl (by decide) slices_S512x1024_o0_256_S512x128 _ _ x
    · exact slice_tileOf (k0_pay16 A M b g) 1 128 rfl (by decide) slices_S512x1024_o0_128_S512x128 _ _ x
    · exact slice_tileOf (k0_pay16 A M b g) 0 0 rfl (by decide) slices_S512x1024_o0_0_S512x128 _ _ x
  · have h0 := idx2_lt0 y
    have h1 := idx2_lt1 y
    have key : ∀ (s : ℕ) (inb) (sp), (y 0).val % 8 = s →
        y ∈ (⟨(⟨![s, 0], S512x128.size, ![8, 1], inb⟩ : LoadRect S4096x128), sp⟩ : Rect S4096x128).set := by
      intro s inb sp hs
      rw [LoadRect.mem_set]
      intro a
      match a with
      | ⟨0, _⟩ => exact ⟨(y 0).val / 8, by show (y 0).val / 8 < 512; omega, by show (y 0).val = s + 8 * ((y 0).val / 8); omega⟩
      | ⟨1, _⟩ => exact ⟨(y 1).val, h1, by show (y 1).val = 0 + 1 * (y 1).val; omega⟩
    obtain e | e | e | e | e | e | e | e : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by omega
    · exact ⟨_, .head _, key 7 inb_S4096x128_S512x128_7_0_s_8_1 _ e⟩
    · exact ⟨_, .tail _ (.head _), key 6 inb_S4096x128_S512x128_6_0_s_8_1 _ e⟩
    · exact ⟨_, .tail _ (.tail _ (.head _)), key 5 inb_S4096x128_S512x128_5_0_s_8_1 _ e⟩
    · exact ⟨_, .tail _ (.tail _ (.tail _ (.head _))), key 4 inb_S4096x128_S512x128_4_0_s_8_1 _ e⟩
    · exact ⟨_, .tail _ (.tail _ (.tail _ (.tail _ (.head _)))), key 3 inb_S4096x128_S512x128_3_0_s_8_1 _ e⟩
    · exact ⟨_, .tail _ (.tail _ (.tail _ (.tail _ (.tail _ (.head _))))), key 2 inb_S4096x128_S512x128_2_0_s_8_1 _ e⟩
    · exact ⟨_, .tail _ (.tail _ (.tail _ (.tail _ (.tail _ (.tail _ (.head _)))))), key 1 inb_S4096x128_S512x128_1_0_s_8_1 _ e⟩
    · exact ⟨_, .tail _ (.tail _ (.tail _ (.tail _ (.tail _ (.tail _ (.tail _ (.head _))))))), key 0 inb_S4096x128_S512x128_0_0_s_8_1 _ e⟩

/-- The same of loads known to be the head pairs and their gains. -/
theorem readCov_cat_of (v : View sig .tc .vmem S512x1024 .bf16) (x0 : Vec F S6x512x128 .f32) (x1 : Vec F S512x256 .bf16) (x4 : Vec F S1x768 .f32)
    {w : Vec F S512x256 .bf16} {a0 a1 a2 a3 a4 a5 b0 b1 b2 b3 b4 b5 : Vec F S1x512x128 .f32} {g0 g1 g2 g3 g4 g5 : Vec F S1x128 .f32} (hw : w = x1)
    (ha0 : a0 = slab x0 0) (ha1 : a1 = slab x0 1) (ha2 : a2 = slab x0 2) (ha3 : a3 = slab x0 3) (ha4 : a4 = slab x0 4) (ha5 : a5 = slab x0 5)
    (hb0 : b0 = slab x0 0) (hg0 : g0 = gain x4 0) (hb1 : b1 = slab x0 1) (hg1 : g1 = gain x4 1) (hb2 : b2 = slab x0 2) (hg2 : g2 = gain x4 2) (hb3 : b3 = slab x0 3) (hg3 : g3 = gain x4 3) (hb4 : b4 = slab x0 4) (hg4 : g4 = gain x4 4) (hb5 : b5 = slab x0 5) (hg5 : g5 = gain x4 5) :
    v.readCov (Val := Elt F)
      [⟨Rect.unit (s := S512x1024) ![0, 768] S512x256.size inb_S512x1024_S512x256_0_768, k0_pay12 w⟩,
       ⟨Rect.unit (s := S512x1024) ![0, 640] S512x128.size inb_S512x1024_S512x128_0_640, k0_pay11 (k0_pay5 (k0_pay4 a0 a1 a2 a3 a4) a5) b5 g5⟩,
       ⟨Rect.unit (s := S512x1024) ![0, 512] S512x128.size inb_S512x1024_S512x128_0_512, k0_pay10 (k0_pay5 (k0_pay4 a0 a1 a2 a3 a4) a5) b4 g4⟩,
       ⟨Rect.unit (s := S512x1024) ![0, 384] S512x128.size inb_S512x1024_S512x128_0_384, k0_pay9 (k0_pay5 (k0_pay4 a0 a1 a2 a3 a4) a5) b3 g3⟩,
       ⟨Rect.unit (s := S512x1024) ![0, 256] S512x128.size inb_S512x1024_S512x128_0_256, k0_pay8 (k0_pay5 (k0_pay4 a0 a1 a2 a3 a4) a5) b2 g2⟩,
       ⟨Rect.unit (s := S512x1024) ![0, 128] S512x128.size inb_S512x1024_S512x128_0_128, k0_pay7 (k0_pay4 a0 a1 a2 a3 a4) a5 b1 g1⟩,
       ⟨Rect.unit (s := S512x1024) ![0, 0] S512x128.size inb_S512x1024_S512x128_0_0, k0_pay6 (k0_pay4 a0 a1 a2 a3 a4) a5 b0 g0⟩]
      (Rect.unit (s := S512x1024) ![0, 0] S512x1024.size inb_S512x1024_S512x1024_0_0).toLoadRect
      = catOf x0 x1 x4 := by
  subst hw ha0 hb0 hg0 ha1 hb1 hg1 ha2 hb2 hg2 ha3 hb3 hg3 ha4 hb4 hg4 ha5 hb5 hg5
  exact readCov_cat v x0 _ x4

theorem x1_congr {A A' : Vec F S512x1024 .bf16} {B B' : Vec F S1024x1024 .bf16} {C C' : Vec F S1x6x1024 .f32} {D D' : Vec F S512x1024 .f32}
    {e e' g g' : Vec F S1x1024 .f32} (hA : A = A') (hB : B = B') (hC : C = C') (hD : D = D') (he : e = e') (hg : g = g') :
    k0_pay15 (k0_pay14 A B C D) e g = k0_pay15 (k0_pay14 A' B' C' D') e' g' := by
  subst hA hB hC hD he hg; rfl

theorem u2_congr {A A' : Vec F S512x1024 .bf16} {B B' : Vec F S1024x1024 .bf16} {C C' E E' : Vec F S1x6x1024 .f32} {D D' : Vec F S512x1024 .f32}
    {e e' g g' : Vec F S1x1024 .f32} (hE : E = E') (hA : A = A') (hB : B = B') (hC : C = C') (hD : D = D') (he : e = e') (hg : g = g') :
    tileOf (k0_pay16 (k0_pay13 E) (k0_pay14 A B C D) e g) = tileOf (k0_pay16 (k0_pay13 E') (k0_pay14 A' B' C' D') e' g') := by
  subst hE hA hB hC hD he hg; rfl

end Cert.Kernel4Ideal.Out

end
-- ==== Proof.OutSetup.lean ====
/- The output projection's launch: what the region finds in every buffer after the host operations, each window's
   block of its array, the proof data of the pipeline, and the staging and scratch buffers as the body sees them. -/
module

public import proofs.«01_k».proof.Proof.OutRows

@[expose] public section

set_option maxRecDepth 16384

noncomputable section

namespace Cert.Kernel4Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel4Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host operations before the region. -/
abbrev hostOps : List (List (HloOp τ sig (Elt F))) := [hostOps0, hostOps0_1, hostOps0_2, hostOps0_3, hostOps0_4]

/-- What buffer `b` of core `c` holds when the region is entered. -/
abbrev V (c : Dev nD) (b : Ref sig .tc) : Buf (Elt F) ((c : Thread nD τ).loc b) :=
  StableHlo.after (hostOps (F := F)).flatten (fun b => m (c, b)) b

theorem host_sub : (hostOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub⟩

theorem host_fresh : (hostOps : List (List (HloOp τ sig (Elt F)))).Forall fun ops => ops.Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostOps host_sub host_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.TRef.unary, StableHlo.TRef.binary, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.TRef.unary, StableHlo.TRef.binary, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.TRef.unary, StableHlo.TRef.binary, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.TRef.unary, StableHlo.TRef.binary, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.TRef.unary, StableHlo.TRef.binary, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.TRef.unary, StableHlo.TRef.binary, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.TRef.unary, StableHlo.TRef.binary, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.TRef.unary, StableHlo.TRef.binary, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.TRef.unary, StableHlo.TRef.binary, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.TRef.unary, StableHlo.TRef.binary, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not. -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- What point `t` leaves in the first result's block. -/
def x1At (c : Dev nD) (t : Fin cfg0.N) : Vec F S512x1024 .f32 :=
  x1Of (iblk m c 0 t) (iblk m c 1 t) (iblk m c 2 t) (iblk m c 3 t) (iblk m c 4 t) (iblk m c 5 t) (iblk m c 6 t) (iblk m c 7 t)

/-- What point `t` leaves in the second result's block. -/
def u2At (c : Dev nD) (t : Fin cfg0.N) : Vec F S4096x128 .f32 :=
  u2Of (iblk m c 0 t) (iblk m c 1 t) (iblk m c 2 t) (iblk m c 3 t) (iblk m c 4 t) (iblk m c 5 t) (iblk m c 6 t) (iblk m c 7 t)

/-- The routing results are not described. -/
def forgets : Fin 14 → Bool := fun w => w.val == 12 || w.val == 13

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => x1At m c t
    | ⟨11, _⟩ => u2At m c t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = x1At m c t := by dsimp only [dats]
theorem after11 (c : Dev nD) (t : Fin cfg0.N) : (dats m 0 c).after 11 t = u2At m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## Staging and scratch buffers -/

abbrev ms0 (t : Fin cfg0.N) : Memref sig .tc .vmem S6x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x6x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x768 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x1024x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S4096x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S8x128 .f32 := win0_13.stage (cfg0.slots t 13)
abbrev hs13 (t : Fin cfg0.N) : (ms13 t).IsWhole := hstage0_13 ((cfg0.slots t 13).cast nbuf0_13)

/-- The rows to be projected, and the running counts. -/
abbrev catM : Memref sig .tc .vmem S512x1024 .bf16 := Memref.whole cc0_scratch0
abbrev carM : Memref sig .tc .vmem S8x128 .f32 := Memref.whole cc0_scratch1

theorem PhiA_eq (c : Dev nD) : (Pipeline.ΦA spec0 c : sProp 𝕄)
    = iprop(iprop((∃ d, owns (c : Thread nD τ) catM fullShare d) ∗ (∃ d, owns (c : Thread nD τ) carM fullShare d)) ∗ (∃ r, prngReg c r)) := by
  unfold Pipeline.ΦA; rw [scopedRest0_eq]; simp only [catM, carM, owns_whole]; rfl

/-- The body at point `t`, on what the pipeline calls it with. -/
abbrev bodyAt (t : Fin cfg0.N) : Prog (TpuEff nD τ sig (Elt F) Λ₀ .tc) PUnit :=
  cc0_outproj_router (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) catM (Memref.isWhole_whole _) carM (Memref.isWhole_whole _)

theorem defs₀_row (t : Fin cfg0.N) : defs₀ (F := F) .tc cfg0.body (cfg0.bodyArgs t (cfg0.slots t)) = bodyAt t := by
  unfold defs₀; rw [Defs.onTc_tc]

end Cert.Kernel4Ideal.Out

end
-- ==== Proof.OutSpec.lean ====
/- What one row of the layer's output projection is over the extended reals, and that the kernel's block computes it. -/
module

public import proofs.«01_k».proof.Proof.OutSetup
public import Idealize.ShloMosaic.Lib.Pointwise

@[expose] public section

set_option maxRecDepth 16384

noncomputable section

namespace Cert.Kernel4Ideal.Out

open Idealize.ShloMosaic Cert.Kernel4Ideal Cert.Kernel4Ideal.Gen

/-- What a row's results are made of: the attention columns and their gains, the recurrent columns, the weights, the
    residual row, three rows of modulations and the norm's gain and offset. -/
structure Row where
  attn : Fin 768 → EReal
  gain : Fin 768 → EReal
  lru : Fin 256 → EReal
  w : Fin 1024 → Fin 1024 → EReal
  x : Fin 1024 → EReal
  gate : Fin 1024 → EReal
  shift : Fin 1024 → EReal
  scale : Fin 1024 → EReal
  g : Fin 1024 → EReal
  b : Fin 1024 → EReal

/-- A row less its mean. -/
def centred (x : Fin 1024 → EReal) (k : Fin 1024) : EReal := x k - Ideal.div (∑ j, x j) (Ideal.ofBits .f32 0x44800000#32)

/-- A row normalised over its 1024 entries. -/
def normed (x : Fin 1024 → EReal) (k : Fin 1024) : EReal :=
  centred x k * Ideal.rsqrt (Ideal.div (∑ j, centred x j * centred x j) (Ideal.ofBits .f32 0x44800000#32) + Ideal.ofBits .f32 0x3727C5AC#32)

namespace Row

variable (R : Row)

/-- One over the root mean square of the attention columns. -/
def inv : EReal := Ideal.rsqrt (Ideal.div (∑ p, R.attn p * R.attn p) (Ideal.ofBits .f32 0x44400000#32) + Ideal.ofBits .f32 0x358637BD#32)

/-- The projected row: 768 normalised attention columns, then 256 recurrent columns. -/
def cat (k : Fin 1024) : EReal :=
  if h : k.val < 768 then R.attn ⟨k.val, h⟩ * R.inv * R.gain ⟨k.val, h⟩ else R.lru ⟨k.val - 768, by omega⟩

/-- The residual row: 8^(1/4) times the input and the gated projection. -/
def res (n : Fin 1024) : EReal := Ideal.ofBits .f32 0x3FD744FD#32 * R.x n + (1 + R.gate n) * ∑ k, R.cat k * R.w k n

/-- The first result's row. -/
def x1 (n : Fin 1024) : EReal := normed R.res n * R.g n + R.b n

/-- The second result's row. -/
def u2 (n : Fin 1024) : EReal := normed R.x1 n * (1 + R.scale n) + R.shift n

end Row

/-- Two rows with the same entries. -/
theorem Row.eq {R R' : Row} (h0 : ∀ k, R.attn k = R'.attn k) (h1 : ∀ k, R.gain k = R'.gain k) (h2 : ∀ k, R.lru k = R'.lru k) (h3 : ∀ k n, R.w k n = R'.w k n) (h4 : ∀ k, R.x k = R'.x k) (h5 : ∀ k, R.gate k = R'.gate k) (h6 : ∀ k, R.shift k = R'.shift k) (h7 : ∀ k, R.scale k = R'.scale k) (h8 : ∀ k, R.g k = R'.g k) (h9 : ∀ k, R.b k = R'.b k) : R = R' := by
  cases R
  cases R'
  obtain rfl := funext h0
  obtain rfl := funext h1
  obtain rfl := funext h2
  obtain rfl := funext fun k => funext (h3 k)
  obtain rfl := funext h4
  obtain rfl := funext h5
  obtain rfl := funext h6
  obtain rfl := funext h7
  obtain rfl := funext h8
  obtain rfl := funext h9
  rfl

/-- Row `r` of the launch, by its arguments: row `r % 2048` of sequence `r / 2048`. -/
def rowAt (a0 : Vec Ideal S6x32x2048x128 .f32) (a1 : Vec Ideal S65536x256 .bf16) (a2 : Vec Ideal S65536x1024 .f32) (a3 : Vec Ideal S32x6x1024 .f32)
    (a4 : Vec Ideal S768 .f32) (a5 : Vec Ideal S1024x1024 .f32) (a6 a7 : Vec Ideal S1024 .f32) (r : Fin 65536) : Row where
  attn p := a0 (ix4 (n0 := 6) (n1 := 32) (n2 := 2048) (n3 := 128) ⟨p.val / 128, by omega⟩ ⟨r.val / 2048, by omega⟩
    ⟨r.val % 2048, Nat.mod_lt _ (by decide)⟩ ⟨p.val % 128, Nat.mod_lt _ (by decide)⟩)
  gain p := a4 (ix1 (n0 := 768) p)
  lru k := a1 (ix2 (n0 := 65536) (n1 := 256) r k)
  w k n := a5 (ix2 (n0 := 1024) (n1 := 1024) k n)
  x n := a2 (ix2 (n0 := 65536) (n1 := 1024) r n)
  gate n := a3 (ix3 (n0 := 32) (n1 := 6) (n2 := 1024) ⟨r.val / 2048, by omega⟩ 2 n)
  shift n := a3 (ix3 (n0 := 32) (n1 := 6) (n2 := 1024) ⟨r.val / 2048, by omega⟩ 3 n)
  scale n := a3 (ix3 (n0 := 32) (n1 := 6) (n2 := 1024) ⟨r.val / 2048, by omega⟩ 4 n)
  g n := a6 (ix1 (n0 := 1024) n)
  b n := a7 (ix1 (n0 := 1024) n)

theorem bits_768 : Ideal.ofBits .f32 0x44400000#32 = ((768 : ℝ) : EReal) := by
  simp [Ideal.ofBits, Ideal.ieee, -EReal.coe_mul]; norm_num

/-- Multiplying by the named 1/768 is dividing by 768. -/
theorem mul_named (x : EReal) : x * Named.named (F := Ideal) κ "inv_768" (φ := .f32) 0x3AAAAAAB#32 = Ideal.div x (Ideal.ofBits .f32 0x44400000#32) := by
  rw [bits_768, Ideal.div_coe (by norm_num)]
  rfl

variable (x0 : Vec Ideal S6x512x128 .f32) (x1 : Vec Ideal S512x256 .bf16) (x2 : Vec Ideal S512x1024 .f32) (x3 : Vec Ideal S1x6x1024 .f32)
  (x4 : Vec Ideal S1x768 .f32) (x5 : Vec Ideal S1024x1024 .bf16) (x6 x7 : Vec Ideal S1x1024 .f32)

/-- Row `r` of a block. -/
def rowOf (r : Fin 512) : Row where
  attn p := x0 (ix3 (n0 := 6) (n1 := 512) (n2 := 128) ⟨p.val / 128, by omega⟩ r ⟨p.val % 128, Nat.mod_lt _ (by decide)⟩)
  gain p := x4 (ix2 (n0 := 1) (n1 := 768) 0 p)
  lru k := x1 (ix2 (n0 := 512) (n1 := 256) r k)
  w k n := x5 (ix2 (n0 := 1024) (n1 := 1024) k n)
  x n := x2 (ix2 (n0 := 512) (n1 := 1024) r n)
  gate n := x3 (ix3 (n0 := 1) (n1 := 6) (n2 := 1024) 0 2 n)
  shift n := x3 (ix3 (n0 := 1) (n1 := 6) (n2 := 1024) 0 3 n)
  scale n := x3 (ix3 (n0 := 1) (n1 := 6) (n2 := 1024) 0 4 n)
  g n := x6 (ix2 (n0 := 1) (n1 := 1024) 0 n)
  b n := x7 (ix2 (n0 := 1) (n1 := 1024) 0 n)

theorem sum_heads (f : Fin 768 → EReal) : ∑ p, f p = 0 + (∑ t : Fin 128, f ⟨t.val, by omega⟩) + (∑ t : Fin 128, f ⟨128 + t.val, by omega⟩)
    + (∑ t : Fin 128, f ⟨256 + t.val, by omega⟩) + (∑ t : Fin 128, f ⟨384 + t.val, by omega⟩) + (∑ t : Fin 128, f ⟨512 + t.val, by omega⟩)
    + ∑ t : Fin 128, f ⟨640 + t.val, by omega⟩ := by
  rw [Fin.sum_univ_tiles 6 128 rfl, Fin.sum_univ_six, zero_add]
  simp

theorem invOf_row (r : Fin 512) (z : Fin 1) : invOf x0 (ix2 r z) = (rowOf x0 x1 x2 x3 x4 x5 x6 x7 r).inv := by
  unfold Row.inv
  rw [sum_heads]
  pointwise [invOf, k0_pay5, k0_pay4, slab, rowOf, mul_named]
  refine congrArg Ideal.rsqrt (congrArg (· + _) (congrArg (Ideal.div · _) ?_))
  have e : ∀ (h : Fin 6) (t : Fin 128) (n : ℕ) (hn : n = 128 * h.val + t.val) (p q),
      x0 (ValueIdx.ix3 (n0 := 6) (n1 := 512) (n2 := 128) h r t) = x0 (ix3 (n0 := 6) (n1 := 512) (n2 := 128) ⟨n / 128, p⟩ r ⟨n % 128, q⟩) := by
    intro h t n hn p q
    have ht := t.isLt
    refine congrArg x0 (funext fun a => Fin.ext ?_)
    match a with
    | ⟨0, _⟩ => show h.val = n / 128; omega
    | ⟨1, _⟩ => rfl
    | ⟨2, _⟩ => show t.val = n % 128; omega
  refine congrArg₂ (· + ·) (congrArg₂ (· + ·) (congrArg₂ (· + ·) (congrArg₂ (· + ·) (congrArg₂ (· + ·) ?_ ?_) ?_) ?_) ?_) ?_
  · exact Finset.sum_congr rfl fun t _ => congrArg₂ (· * ·) (e 0 t _ (by simp) _ _) (e 0 t _ (by simp) _ _)
  · exact Finset.sum_congr rfl fun t _ => congrArg₂ (· * ·) (e 1 t _ rfl _ _) (e 1 t _ rfl _ _)
  · exact Finset.sum_congr rfl fun t _ => congrArg₂ (· * ·) (e 2 t _ rfl _ _) (e 2 t _ rfl _ _)
  · exact Finset.sum_congr rfl fun t _ => congrArg₂ (· * ·) (e 3 t _ rfl _ _) (e 3 t _ rfl _ _)
  · exact Finset.sum_congr rfl fun t _ => congrArg₂ (· * ·) (e 4 t _ rfl _ _) (e 4 t _ rfl _ _)
  · exact Finset.sum_congr rfl fun t _ => congrArg₂ (· * ·) (e 5 t _ rfl _ _) (e 5 t _ rfl _ _)

theorem cat_row (r : Fin 512) (k : Fin 1024) : catOf x0 x1 x4 (ix2 r k) = (rowOf x0 x1 x2 x3 x4 x5 x6 x7 r).cat k := by
  unfold catOf Row.cat
  by_cases h : k.val < 768
  · rw [dif_pos (show ((ix2 r k : S512x1024.Idx) 1).val < 768 from h), dif_pos h, ← invOf_row x0 x1 x2 x3 x4 x5 x6 x7 r 0]
    generalize invOf x0 = v
    pointwise [k0_pay8, slab, gain, rowOf]
    refine congrArg₂ (· * ·) rfl (congrArg x4 (funext fun a => Fin.ext ?_))
    match a with
    | ⟨0, _⟩ => rfl
    | ⟨1, _⟩ => show 128 * (k.val / 128) + k.val % 128 = k.val; omega
  · rw [dif_neg (show ¬((ix2 r k : S512x1024.Idx) 1).val < 768 from h), dif_neg h]
    rfl

theorem mid_row (r : Fin 512) (n : Fin 1024) : midOf x0 x1 x2 x3 x4 x5 (ix2 r n) = centred (rowOf x0 x1 x2 x3 x4 x5 x6 x7 r).res n := by
  have hc := cat_row x0 x1 x2 x3 x4 x5 x6 x7 r
  unfold centred Row.res
  simp only [← hc]
  unfold midOf
  generalize catOf x0 x1 x4 = v
  pointwise [k0_pay14, k0_pay13, rowOf]

theorem x1_row (r : Fin 512) (n : Fin 1024) : x1Of x0 x1 x2 x3 x4 x5 x6 x7 (ix2 r n) = (rowOf x0 x1 x2 x3 x4 x5 x6 x7 r).x1 n := by
  have hc := mid_row x0 x1 x2 x3 x4 x5 x6 x7 r
  unfold Row.x1 normed
  simp only [← hc]
  unfold x1Of
  generalize midOf x0 x1 x2 x3 x4 x5 = v
  pointwise [k0_pay15, rowOf]

theorem u2_row (r : Fin 512) (n : Fin 1024) :
    k0_pay16 (k0_pay13 x3) (midOf x0 x1 x2 x3 x4 x5) x6 x7 (ix2 r n) = (rowOf x0 x1 x2 x3 x4 x5 x6 x7 r).u2 n := by
  have hc := x1_row x0 x1 x2 x3 x4 x5 x6 x7 r
  unfold Row.u2 normed centred
  simp only [← hc]
  unfold x1Of k0_pay16
  generalize k0_pay15 (midOf x0 x1 x2 x3 x4 x5) x6 x7 = v
  pointwise [k0_pay13, rowOf]

end Cert.Kernel4Ideal.Out
end
-- ==== Proof.OutRun.lean ====
/- One tile's run of the output projection's body. -/
module

public import proofs.«01_k».proof.Proof.OutRows

@[expose] public section

set_option maxRecDepth 16384

noncomputable section

namespace Cert.Kernel4Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel4Ideal.Gen

variable {F : FTy → Type} [FloatOps F] [Named F]

local notation "𝕄" => MT nD τ sig Unit (Elt F) ℕ (UR sig nD τ) ℕ

set_option maxHeartbeats 8000000 in
/-- The body on one tile: the inputs stay, the first two results get their blocks, the two others and the scratch
    buffers hold something. -/
theorem run_tile (c : Dev nD) (i : grid0.Coords)
    (arg1 : Memref sig .tc .vmem S6x512x128 .f32) (harg1 : arg1.IsWhole)
    (arg2 : Memref sig .tc .vmem S512x256 .bf16) (harg2 : arg2.IsWhole)
    (arg3 : Memref sig .tc .vmem S512x1024 .f32) (harg3 : arg3.IsWhole)
    (arg4 : Memref sig .tc .vmem S1x6x1024 .f32) (harg4 : arg4.IsWhole)
    (arg5 : Memref sig .tc .vmem S1x768 .f32) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S2x1024x128 .bf16) (harg9 : arg9.IsWhole)
    (arg10 : Memref sig .tc .vmem S1x128 .f32) (harg10 : arg10.IsWhole)
    (arg11 : Memref sig .tc .vmem S512x1024 .f32) (harg11 : arg11.IsWhole)
    (arg12 : Memref sig .tc .vmem S4096x128 .f32) (harg12 : arg12.IsWhole)
    (arg13 : Memref sig .tc .vmem S512x128 .f32) (harg13 : arg13.IsWhole)
    (arg14 : Memref sig .tc .vmem S8x128 .f32) (harg14 : arg14.IsWhole)
    (arg15 : Memref sig .tc .vmem S512x1024 .bf16) (harg15 : arg15.IsWhole)
    (arg16 : Memref sig .tc .vmem S8x128 .f32) (harg16 : arg16.IsWhole)
    (x0 : Vec F S6x512x128 .f32)
    (x1 : Vec F S512x256 .bf16)
    (x2 : Vec F S512x1024 .f32)
    (x3 : Vec F S1x6x1024 .f32)
    (x4 : Vec F S1x768 .f32)
    (x5 : Vec F S1024x1024 .bf16)
    (x6 : Vec F S1x1024 .f32)
    (x7 : Vec F S1x1024 .f32)
    (x8 : Vec F S2x1024x128 .bf16)
    (x9 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (x1Of x0 x1 x2 x3 x4 x5 x6 x7) ∗ owns (c : Thread nD τ) arg12 fullShare (u2Of x0 x1 x2 x3 x4 x5 x6 x7) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_outproj_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_outproj_router_eq_skeleton]; unfold cc0_outproj_router_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    refine (View.read_writes_full _ _ _ _ _).trans ?_
    sl_unfold_words
    exact x1_congr (readCov_cat_of _ x0 x1 x4 ((View.readAt_full _ _ _).trans (harg2.read_unread _)) (ld_slab arg1 harg1 x0 0 0 rfl _) (ld_slab arg1 harg1 x0 1 1 rfl _) (ld_slab arg1 harg1 x0 2 2 rfl _) (ld_slab arg1 harg1 x0 3 3 rfl _) (ld_slab arg1 harg1 x0 4 4 rfl _) (ld_slab arg1 harg1 x0 5 5 rfl _) (ld_slab arg1 harg1 x0 0 0 rfl _) (ld_gain arg5 harg5 x4 0 0 rfl _) (ld_slab arg1 harg1 x0 1 1 rfl _) (ld_gain arg5 harg5 x4 1 128 rfl _) (ld_slab arg1 harg1 x0 2 2 rfl _) (ld_gain arg5 harg5 x4 2 256 rfl _) (ld_slab arg1 harg1 x0 3 3 rfl _) (ld_gain arg5 harg5 x4 3 384 rfl _) (ld_slab arg1 harg1 x0 4 4 rfl _) (ld_gain arg5 harg5 x4 4 512 rfl _) (ld_slab arg1 harg1 x0 5 5 rfl _) (ld_gain arg5 harg5 x4 5 640 rfl _)) ((View.readAt_full _ _ _).trans (harg6.read_unread _)) ((View.readAt_full _ _ _).trans (harg4.read_unread _)) ((View.readAt_full _ _ _).trans (harg3.read_unread _)) ((View.readAt_full _ _ _).trans (harg7.read_unread _)) ((View.readAt_full _ _ _).trans (harg8.read_unread _))
  isplitl [H11]
  · iexists _; isplitr; swap; · iexact H11
    ipureintro
    refine (read_out _ _ _ _ _ _).trans ?_
    sl_unfold_words
    exact u2_congr ((View.readAt_full _ _ _).trans (harg4.read_unread _)) (readCov_cat_of _ x0 x1 x4 ((View.readAt_full _ _ _).trans (harg2.read_unread _)) (ld_slab arg1 harg1 x0 0 0 rfl _) (ld_slab arg1 harg1 x0 1 1 rfl _) (ld_slab arg1 harg1 x0 2 2 rfl _) (ld_slab arg1 harg1 x0 3 3 rfl _) (ld_slab arg1 harg1 x0 4 4 rfl _) (ld_slab arg1 harg1 x0 5 5 rfl _) (ld_slab arg1 harg1 x0 0 0 rfl _) (ld_gain arg5 harg5 x4 0 0 rfl _) (ld_slab arg1 harg1 x0 1 1 rfl _) (ld_gain arg5 harg5 x4 1 128 rfl _) (ld_slab arg1 harg1 x0 2 2 rfl _) (ld_gain arg5 harg5 x4 2 256 rfl _) (ld_slab arg1 harg1 x0 3 3 rfl _) (ld_gain arg5 harg5 x4 3 384 rfl _) (ld_slab arg1 harg1 x0 4 4 rfl _) (ld_gain arg5 harg5 x4 4 512 rfl _) (ld_slab arg1 harg1 x0 5 5 rfl _) (ld_gain arg5 harg5 x4 5 640 rfl _)) ((View.readAt_full _ _ _).trans (harg6.read_unread _)) ((View.readAt_full _ _ _).trans (harg4.read_unread _)) ((View.readAt_full _ _ _).trans (harg3.read_unread _)) ((View.readAt_full _ _ _).trans (harg7.read_unread _)) ((View.readAt_full _ _ _).trans (harg8.read_unread _))
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.Kernel4Ideal.Out

end
-- ==== Proof.OutFrame.lean ====
/- The launch of the output projection over its 128 tiles: the arguments end as launched, the first two results are
   what the tiles' bodies leave block by block, and every counter is at zero. -/
module

public import proofs.«01_k».proof.Proof.OutRun
public import proofs.«01_k».proof.Proof.OutSetup

@[expose] public section

set_option maxRecDepth 16384

noncomputable section

namespace Cert.Kernel4Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel4Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare d)
    ∗ (∃ d, owns (c : Thread nD τ) (ms13 t) fullShare d))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ (∃ d, owns (c : Thread nD τ) (ms12 t) fullShare d)
    ∗ (∃ d, owns (c : Thread nD τ) (ms13 t) fullShare d))

set_option maxHeartbeats 1600000 in
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before0, before1, before2, before3, before4, before5, before6, before7, before8, before9]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0, after1, after2, after3, after4, after5, after6, after7, after8, after9, after10, after11, PhiA_eq]
  iintro ⟨⟨⟨HS0, HS1⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
  iapply (run_tile c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.RDat.FramePost cfg0 (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments are as launched. -/
def ArgsKept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)

theorem args_kept {r} (h : Pipeline.RDat.FramePost cfg0 (fun c => (dats m 0 c).toRForget forgets) (V m) r) (c : Dev nD) :
    ArgsKept m r.2.mem c := by
  have kept : ∀ b : Ref sig .tc, b ∈ Pipeline.restRefs sig spec0 → r.2.mem ((c.tc : Thread nD τ).loc b) = V m c b :=
    fun b hb => (h c).2 b hb
  have staged : ∀ w : Fin cfg0.W, (cfg0.win w).isOut = false →
      r.2.mem ((c.tc : Thread nD τ).loc (Pipeline.arrRef spec0 w)) = V m c (Pipeline.arrRef spec0 w) :=
    fun w hw => (Pipeline.RDat.FramePost.arr_in h c w hw).trans (A_eq m c w)
  exact ⟨(kept main_arg0 (Pipeline.mem_restRefs_of main_arg0 (by decide) (by decide))).trans (V_main_arg0 m c),
    (staged 1 rfl).trans (V_main_arg1 m c),
    (staged 2 rfl).trans (V_main_arg2 m c),
    (staged 3 rfl).trans (V_main_arg3 m c),
    (kept main_arg4 (Pipeline.mem_restRefs_of main_arg4 (by decide) (by decide))).trans (V_main_arg4 m c),
    (kept main_arg5 (Pipeline.mem_restRefs_of main_arg5 (by decide) (by decide))).trans (V_main_arg5 m c),
    (kept main_arg6 (Pipeline.mem_restRefs_of main_arg6 (by decide) (by decide))).trans (V_main_arg6 m c),
    (kept main_arg7 (Pipeline.mem_restRefs_of main_arg7 (by decide) (by decide))).trans (V_main_arg7 m c),
    (kept main_arg8 (Pipeline.mem_restRefs_of main_arg8 (by decide) (by decide))).trans (V_main_arg8 m c),
    (kept main_arg9 (Pipeline.mem_restRefs_of main_arg9 (by decide) (by decide))).trans (V_main_arg9 m c)⟩

/-- The two results. -/
theorem outs {r} (h : Pipeline.RDat.FramePost cfg0 (fun c => (dats m 0 c).toRForget forgets) (V m) r) (c : Dev nD) :
    r.2.mem ((c.tc : Thread nD τ).loc main_v15_0) = (dats m 0 c).arrAt 10 cfg0.N
      ∧ r.2.mem ((c.tc : Thread nD τ).loc main_v15_1) = (dats m 0 c).arrAt 11 cfg0.N :=
  ⟨((dats m 0 c).toRForget_arrAt_iff (by decide) _ _).mp ((h c).1 10), ((dats m 0 c).toRForget_arrAt_iff (by decide) _ _).mp ((h c).1 11)⟩

/-- The frame: the arguments end as launched, and every counter at zero. -/
theorem frame : θ_run defs (onTc (τ := τ) (main (F := F))) ⟨m, fun _ => 0, ρ⟩
    (fun r => (∀ c : Dev nD, ArgsKept m r.2.mem c) ∧ r.2.sem = fun _ => 0) :=
  (θ_run defs _ _).mono (fun _ hr => ⟨args_kept m hr.1, hr.2⟩) (run_main m ρ)

end Cert.Kernel4Ideal.Out

end
-- ==== Proof.OutValue.lean ====
/- The output projection's two result arrays over the extended reals. -/
module

public import proofs.«01_k».proof.Proof.OutSpec
public import proofs.«01_k».proof.Proof.OutFrame
public import Idealize.ShloMosaic.Lib.Claim

@[expose] public section

set_option maxRecDepth 16384

noncomputable section

namespace Cert.Kernel4Ideal.Out

open Idealize.ShloMosaic Idealize.ShloMosaic.TcCoe Idealize.SL.Sem
open Cert.Kernel4Ideal Cert.Kernel4Ideal.Gen

variable (m : (ℓ : Loc nD τ sig) → Buf (Elt Ideal) ℓ)

/-! ## The arrays the region finds, by the arguments -/

theorem V_attn (h : Fin 6) (r : Fin 65536) (k : Fin 128) : V m 0 main_v11 (ix3 h r k)
    = m (((0 : Dev nD).tc : Thread nD τ).loc main_arg0) (ix4 h ⟨r.val / 2048, by omega⟩ ⟨r.val % 2048, by omega⟩ k) := by
  simp only [V, hostOps, hostOps0, hostOps0_1, hostOps0_2, hostOps0_3, hostOps0_4, List.flatten_cons, List.flatten_nil, List.append_nil, List.cons_append,
    List.nil_append]
  entry_read
  pointwise

theorem V_w (k n : Fin 1024) : V m 0 main_v10 (ix2 k n) = m (((0 : Dev nD).tc : Thread nD τ).loc main_arg5) (ix2 k n) := by
  simp only [V, hostOps, hostOps0, hostOps0_1, hostOps0_2, hostOps0_3, hostOps0_4, List.flatten_cons, List.flatten_nil, List.append_nil, List.cons_append,
    List.nil_append]
  entry_read
  pointwise

theorem V_gain (p : Fin 768) : V m 0 main_v12 (ix2 (n0 := 1) 0 p) = m (((0 : Dev nD).tc : Thread nD τ).loc main_arg4) (ix1 p) := by
  simp only [V, hostOps, hostOps0, hostOps0_1, hostOps0_2, hostOps0_3, hostOps0_4, List.flatten_cons, List.flatten_nil, List.append_nil, List.cons_append,
    List.nil_append]
  entry_read
  pointwise

theorem V_g (n : Fin 1024) : V m 0 main_v13 (ix2 (n0 := 1) 0 n) = m (((0 : Dev nD).tc : Thread nD τ).loc main_arg6) (ix1 n) := by
  simp only [V, hostOps, hostOps0, hostOps0_1, hostOps0_2, hostOps0_3, hostOps0_4, List.flatten_cons, List.flatten_nil, List.append_nil, List.cons_append,
    List.nil_append]
  entry_read
  pointwise

theorem V_b (n : Fin 1024) : V m 0 main_v14 (ix2 (n0 := 1) 0 n) = m (((0 : Dev nD).tc : Thread nD τ).loc main_arg7) (ix1 n) := by
  simp only [V, hostOps, hostOps0, hostOps0_1, hostOps0_2, hostOps0_3, hostOps0_4, List.flatten_cons, List.flatten_nil, List.append_nil, List.cons_append,
    List.nil_append]
  entry_read
  pointwise

/-! ## Blocks -/

theorem ix : ∀ t : Fin grid0.N, cc0_transform_0 (grid0.coords t) = ![0, t.val, 0] ∧ cc0_transform_1 (grid0.coords t) = ![t.val, 0]
    ∧ cc0_transform_2 (grid0.coords t) = ![t.val, 0] ∧ cc0_transform_3 (grid0.coords t) = ![t.val / 4, 0, 0]
    ∧ cc0_transform_4 (grid0.coords t) = ![0, 0] ∧ cc0_transform_5 (grid0.coords t) = ![0, 0] ∧ cc0_transform_6 (grid0.coords t) = ![0, 0]
    ∧ cc0_transform_7 (grid0.coords t) = ![0, 0] ∧ cc0_transform_10 (grid0.coords t) = ![t.val, 0]
    ∧ cc0_transform_11 (grid0.coords t) = ![t.val, 0] := by decide +kernel

/-- Every block is written back at its own point. -/
theorem flush : ∀ t : Fin grid0.N, win0_10.flush t = true ∧ win0_11.flush t = true := by decide +kernel

/-- The launch's row. -/
def launched (r : Fin 65536) : Row :=
  rowAt (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) (m (((0 : Dev nD).tc : Thread nD τ).loc main_arg7)) r

set_option maxHeartbeats 1600000 in
/-- Block `t`'s rows are rows `512 t …` of the launch. -/
theorem row_blk (t : Fin cfg0.N) (r : Fin 512) (R : Fin 65536) (hR : R.val = t.val * 512 + r.val) :
    rowOf (iblk m 0 0 t) (iblk m 0 1 t) (iblk m 0 2 t) (iblk m 0 3 t) (iblk m 0 4 t) (iblk m 0 5 t) (iblk m 0 6 t) (iblk m 0 7 t) r = launched m R := by
  have ht : t.val < 128 := t.isLt
  obtain ⟨i0, i1, i2, i3, i4, i5, i6, i7, -, -⟩ := ix t
  have mods : ∀ (q : Fin 6) (n : Fin 1024), iblk m 0 3 t (ix3 (n0 := 1) (n1 := 6) (n2 := 1024) 0 q n)
      = m (((0 : Dev nD).tc : Thread nD τ).loc main_arg3) (ix3 (n0 := 32) (n1 := 6) (n2 := 1024) ⟨R.val / 2048, by omega⟩ q n) := by
    intro q n
    refine (congrArg (V m 0 main_arg3) (funext fun a => Fin.ext ?_)).trans (congrFun (V_main_arg3 m 0) _)
    match a with
    | ⟨0, _⟩ => show cc0_transform_3 (grid0.coords t) 0 * 1 + 1 * 0 = R.val / 2048; rw [i3]; show t.val / 4 * 1 + 1 * 0 = _; omega
    | ⟨1, _⟩ => show cc0_transform_3 (grid0.coords t) 1 * 6 + 1 * q.val = q.val; rw [i3]; show 0 * 6 + 1 * q.val = _; omega
    | ⟨2, _⟩ => show cc0_transform_3 (grid0.coords t) 2 * 1024 + 1 * n.val = n.val; rw [i3]; show 0 * 1024 + 1 * n.val = _; omega
  refine Row.eq (fun p => ?_) (fun p => ?_) (fun k => ?_) (fun k n => ?_) (fun n => ?_) (mods 2) (mods 3) (mods 4) (fun n => ?_) (fun n => ?_)
  · refine Eq.trans (congrArg (V m 0 main_v11) (a₂ := ix3 (n0 := 6) (n1 := 65536) (n2 := 128) ⟨p.val / 128, by omega⟩ R ⟨p.val % 128, Nat.mod_lt _ (by decide)⟩) (funext fun a => Fin.ext ?_)) (V_attn m _ _ _)
    match a with
    | ⟨0, _⟩ => show cc0_transform_0 (grid0.coords t) 0 * 6 + 1 * (p.val / 128) = p.val / 128; rw [i0]; show 0 * 6 + 1 * (p.val / 128) = _; omega
    | ⟨1, _⟩ => show cc0_transform_0 (grid0.coords t) 1 * 512 + 1 * r.val = R.val; rw [i0]; show t.val * 512 + 1 * r.val = _; omega
    | ⟨2, _⟩ => show cc0_transform_0 (grid0.coords t) 2 * 128 + 1 * (p.val % 128) = p.val % 128; rw [i0]; show 0 * 128 + 1 * (p.val % 128) = _; omega
  · refine Eq.trans (congrArg (V m 0 main_v12) (a₂ := ix2 (n0 := 1) 0 p) (funext fun a => Fin.ext ?_)) (V_gain m p)
    match a with
    | ⟨0, _⟩ => show cc0_transform_4 (grid0.coords t) 0 * 1 + 1 * 0 = 0; rw [i4]; show 0 * 1 + 1 * 0 = _; omega
    | ⟨1, _⟩ => show cc0_transform_4 (grid0.coords t) 1 * 768 + 1 * p.val = p.val; rw [i4]; show 0 * 768 + 1 * p.val = _; omega
  · refine Eq.trans (congrArg (V m 0 main_arg1) (a₂ := ix2 R k) (funext fun a => Fin.ext ?_)) (congrFun (V_main_arg1 m 0) _)
    match a with
    | ⟨0, _⟩ => show cc0_transform_1 (grid0.coords t) 0 * 512 + 1 * r.val = R.val; rw [i1]; show t.val * 512 + 1 * r.val = _; omega
    | ⟨1, _⟩ => show cc0_transform_1 (grid0.coords t) 1 * 256 + 1 * k.val = k.val; rw [i1]; show 0 * 256 + 1 * k.val = _; omega
  · refine Eq.trans (congrArg (V m 0 main_v10) (a₂ := ix2 k n) (funext fun a => Fin.ext ?_)) (V_w m k n)
    match a with
    | ⟨0, _⟩ => show cc0_transform_5 (grid0.coords t) 0 * 1024 + 1 * k.val = k.val; rw [i5]; show 0 * 1024 + 1 * k.val = _; omega
    | ⟨1, _⟩ => show cc0_transform_5 (grid0.coords t) 1 * 1024 + 1 * n.val = n.val; rw [i5]; show 0 * 1024 + 1 * n.val = _; omega
  · refine Eq.trans (congrArg (V m 0 main_arg2) (a₂ := ix2 R n) (funext fun a => Fin.ext ?_)) (congrFun (V_main_arg2 m 0) _)
    match a with
    | ⟨0, _⟩ => show cc0_transform_2 (grid0.coords t) 0 * 512 + 1 * r.val = R.val; rw [i2]; show t.val * 512 + 1 * r.val = _; omega
    | ⟨1, _⟩ => show cc0_transform_2 (grid0.coords t) 1 * 1024 + 1 * n.val = n.val; rw [i2]; show 0 * 1024 + 1 * n.val = _; omega
  · refine Eq.trans (congrArg (V m 0 main_v13) (a₂ := ix2 (n0 := 1) 0 n) (funext fun a => Fin.ext ?_)) (V_g m n)
    match a with
    | ⟨0, _⟩ => show cc0_transform_6 (grid0.coords t) 0 * 1 + 1 * 0 = 0; rw [i6]; show 0 * 1 + 1 * 0 = _; omega
    | ⟨1, _⟩ => show cc0_transform_6 (grid0.coords t) 1 * 1024 + 1 * n.val = n.val; rw [i6]; show 0 * 1024 + 1 * n.val = _; omega
  · refine Eq.trans (congrArg (V m 0 main_v14) (a₂ := ix2 (n0 := 1) 0 n) (funext fun a => Fin.ext ?_)) (V_b m n)
    match a with
    | ⟨0, _⟩ => show cc0_transform_7 (grid0.coords t) 0 * 1 + 1 * 0 = 0; rw [i7]; show 0 * 1 + 1 * 0 = _; omega
    | ⟨1, _⟩ => show cc0_transform_7 (grid0.coords t) 1 * 1024 + 1 * n.val = n.val; rw [i7]; show 0 * 1024 + 1 * n.val = _; omega

/-- The first result: block after block, the rows. -/
theorem arr_x1 : (dats m 0 0).arrAt 10 cfg0.N = (fun j => (launched m (j 0)).x1 (j 1) : Vec Ideal S65536x1024 .f32) := by
  refine Pipeline.Dat.arrAt_eq_of_cover _ 10 _ (fun t _ => funext fun (y : S512x1024.Idx) => ?_) fun (j : S65536x1024.Idx) => ?_
  · have ht : t.val < 128 := t.isLt
    have y0 : (y 0).val < 512 := (y 0).isLt
    have y1 : (y 1).val < 1024 := (y 1).isLt
    have e := (ix t).2.2.2.2.2.2.2.2.1
    have hz : (y : S512x1024.Idx) = ix2 (n0 := 512) (n1 := 1024) ⟨(y 0).val, y0⟩ ⟨(y 1).val, y1⟩ :=
      funext fun a => by match a with | ⟨0, _⟩ => rfl | ⟨1, _⟩ => rfl
    refine ((congrFun (after10 m 0 t) y).trans (congrArg (x1At m 0 t) hz)).trans ?_
    unfold x1At
    refine (x1_row _ _ _ _ _ _ _ _ ⟨(y 0).val, y0⟩ ⟨(y 1).val, y1⟩).trans ?_
    rw [row_blk m t ⟨(y 0).val, y0⟩ ⟨t.val * 512 + (y 0).val, by omega⟩ rfl]
    show _ = (fun (j : S65536x1024.Idx) => (launched m (j 0)).x1 (j 1)) _
    refine congrArg₂ (fun R n => (launched m R).x1 n) (Fin.ext ?_) (Fin.ext ?_)
    · show t.val * 512 + (y 0).val = cc0_transform_10 (grid0.coords t) 0 * 512 + 1 * (y 0).val
      rw [e]
      show t.val * 512 + (y 0).val = t.val * 512 + 1 * (y 0).val
      omega
    · show (y 1).val = cc0_transform_10 (grid0.coords t) 1 * 1024 + 1 * (y 1).val
      rw [e]
      show (y 1).val = 0 * 1024 + 1 * (y 1).val
      omega
  · have j0 : (j 0).val < 65536 := (j 0).isLt
    have j1 : (j 1).val < 1024 := (j 1).isLt
    have ht : (j 0).val / 512 < grid0.N := show (j 0).val / 512 < 128 by omega
    refine ⟨⟨(j 0).val / 512, ht⟩, (flush _).1, ?_⟩
    have e := (ix ⟨(j 0).val / 512, ht⟩).2.2.2.2.2.2.2.2.1
    erw [View.set_slice_whole, Rect.mem_set_unit]
    intro a
    match a with
    | ⟨0, _⟩ =>
      show cc0_transform_10 (grid0.coords ⟨(j 0).val / 512, ht⟩) 0 * 512 ≤ (j 0).val
        ∧ (j 0).val < cc0_transform_10 (grid0.coords ⟨(j 0).val / 512, ht⟩) 0 * 512 + 512
      rw [e]
      show ((j 0).val / 512) * 512 ≤ (j 0).val ∧ (j 0).val < ((j 0).val / 512) * 512 + 512
      omega
    | ⟨1, _⟩ =>
      show cc0_transform_10 (grid0.coords ⟨(j 0).val / 512, ht⟩) 1 * 1024 ≤ (j 1).val
        ∧ (j 1).val < cc0_transform_10 (grid0.coords ⟨(j 0).val / 512, ht⟩) 1 * 1024 + 1024
      rw [e]
      show 0 * 1024 ≤ (j 1).val ∧ (j 1).val < 0 * 1024 + 1024
      omega

/-- The rows of the second result as lines of 128 entries, eight to a row. -/
def u2Lines (j : S524288x128.Idx) : EReal :=
  (launched m ⟨(j 0).val / 8, by have h : (j 0).val < 524288 := (j 0).isLt; omega⟩).u2
    ⟨(j 0).val % 8 * 128 + (j 1).val, by have h : (j 1).val < 128 := (j 1).isLt; omega⟩

/-- The second result: block after block, the lines. -/
theorem arr_u2 : (dats m 0 0).arrAt 11 cfg0.N = (u2Lines m : Vec Ideal S524288x128 .f32) := by
  refine Pipeline.Dat.arrAt_eq_of_cover _ 11 _ (fun t _ => funext fun (y : S4096x128.Idx) => ?_) fun (j : S524288x128.Idx) => ?_
  · have ht : t.val < 128 := t.isLt
    have y0 : (y 0).val < 4096 := (y 0).isLt
    have y1 : (y 1).val < 128 := (y 1).isLt
    have e := (ix t).2.2.2.2.2.2.2.2.2
    refine (show (dats m 0 0).flushed 11 t y = u2At m 0 t y from congrFun (after11 m 0 t) y).trans ?_
    unfold u2At u2Of tileOf
    refine (u2_row _ _ _ _ _ _ _ _ ⟨(y 0).val / 8, by omega⟩ ⟨(y 0).val % 8 * 128 + (y 1).val, by omega⟩).trans ?_
    rw [row_blk m t ⟨(y 0).val / 8, by omega⟩ ⟨t.val * 512 + (y 0).val / 8, by omega⟩ rfl]
    show _ = u2Lines m _
    refine congrArg₂ (fun R n => (launched m R).u2 n) (Fin.ext ?_) (Fin.ext ?_)
    · show t.val * 512 + (y 0).val / 8 = (cc0_transform_11 (grid0.coords t) 0 * 4096 + 1 * (y 0).val) / 8
      rw [e]
      show t.val * 512 + (y 0).val / 8 = (t.val * 4096 + 1 * (y 0).val) / 8
      omega
    · show (y 0).val % 8 * 128 + (y 1).val = (cc0_transform_11 (grid0.coords t) 0 * 4096 + 1 * (y 0).val) % 8 * 128 + (cc0_transform_11 (grid0.coords t) 1 * 128 + 1 * (y 1).val)
      rw [e]
      show (y 0).val % 8 * 128 + (y 1).val = (t.val * 4096 + 1 * (y 0).val) % 8 * 128 + (0 * 128 + 1 * (y 1).val)
      omega
  · have j0 : (j 0).val < 524288 := (j 0).isLt
    have j1 : (j 1).val < 128 := (j 1).isLt
    have ht : (j 0).val / 4096 < grid0.N := show (j 0).val / 4096 < 128 by omega
    refine ⟨⟨(j 0).val / 4096, ht⟩, (flush _).2, ?_⟩
    have e := (ix ⟨(j 0).val / 4096, ht⟩).2.2.2.2.2.2.2.2.2
    erw [View.set_slice_whole, Rect.mem_set_unit]
    intro a
    match a with
    | ⟨0, _⟩ =>
      show cc0_transform_11 (grid0.coords ⟨(j 0).val / 4096, ht⟩) 0 * 4096 ≤ (j 0).val
        ∧ (j 0).val < cc0_transform_11 (grid0.coords ⟨(j 0).val / 4096, ht⟩) 0 * 4096 + 4096
      rw [e]
      show ((j 0).val / 4096) * 4096 ≤ (j 0).val ∧ (j 0).val < ((j 0).val / 4096) * 4096 + 4096
      omega
    | ⟨1, _⟩ =>
      show cc0_transform_11 (grid0.coords ⟨(j 0).val / 4096, ht⟩) 1 * 128 ≤ (j 1).val
        ∧ (j 1).val < cc0_transform_11 (grid0.coords ⟨(j 0).val / 4096, ht⟩) 1 * 128 + 128
      rw [e]
      show 0 * 128 ≤ (j 1).val ∧ (j 1).val < 0 * 128 + 128
      omega

/-- The launch's two results, and its arguments kept. -/
theorem run_value (ρ : Dev nD → PrngReg) : θ_run defs (onTc (τ := τ) (main (F := Ideal))) ⟨m, fun _ => 0, ρ⟩ fun r => ∀ c : Dev nD,
      r.2.mem ((c.tc : Thread nD τ).loc main_v15_0) = (fun j => (launched m (j 0)).x1 (j 1) : Vec Ideal S65536x1024 .f32)
      ∧ r.2.mem ((c.tc : Thread nD τ).loc main_v15_1) = (u2Lines m : Vec Ideal S524288x128 .f32)
      ∧ ArgsKept m r.2.mem c := by
  refine (θ_run defs _ _).mono (fun r h c => ?_) (run_main m ρ)
  obtain rfl : c = 0 := Subsingleton.elim c 0
  obtain ⟨h0, h1⟩ := outs m h.1 0
  exact ⟨h0.trans (arr_x1 m), h1.trans (arr_u2 m), args_kept m h.1 0⟩

end Cert.Kernel4Ideal.Out
end
-- ==== Proof.OutReference.lean ====
/- The reference's two results of the output projection, element by element. -/
module

public import proofs.«01_k».proof.Proof.Gen.Reference4Ideal.Run
public import proofs.«01_k».proof.Proof.OutSpec
public import Idealize.ShloMosaic.Lib.Tactic.CleanTypes

@[expose] public section

set_option maxRecDepth 16384

noncomputable section

namespace Cert.Reference4Ideal.Out

open Idealize.ShloMosaic Idealize.ShloMosaic.TcCoe Idealize.SL.Sem
open Cert.Reference4Ideal Cert.Reference4Ideal.Gen Cert.Reference4Ideal.Value
open Cert.Kernel4Ideal.Out (Row rowAt centred normed)

variable (a0 : FVec Ideal S6x32x2048x128 .f32) (a1 : FVec Ideal S65536x256 .bf16) (a2 : FVec Ideal S65536x1024 .f32) (a3 : FVec Ideal S32x6x1024 .f32)
  (a4 : FVec Ideal S768 .f32) (a5 : FVec Ideal S1024x1024 .f32) (a6 a7 : FVec Ideal S1024 .f32)

/-! ## The reference's stages -/

/-- The heads' columns side by side. -/
def attn : FVec Ideal S32x2048x768 .f32 :=
  shapeCast S32x2048x768 (transpose S32x2048x6x128 [1, 2, 0, 3] a0 transposes_S6x32x2048x128_S32x2048x6x128_1_2_0_3) shapeCasts_S32x2048x6x128_S32x2048x768

/-- … normalised by their root mean square. -/
def heads (v : FVec Ideal S32x2048x768 .f32) : FVec Ideal S32x2048x768 .f32 :=
  mulf (mulf v (broadcastInDim S32x2048x768 ![0, 1, 2] bcast_S32x2048x1_S32x2048x768_0_1_2 (Host.rsqrt (addf (Host.divf (broadcastInDim S32x2048x1 ![0, 1] bcast_S32x2048_S32x2048x1_0_1 (Host.reduceAdd (mulf v v) (constant S_ .f32 0x00000000#32) reducesTo_S32x2048x768_S32x2048_d2 h_S_)) (broadcastInDim S32x2048x1 ![] bcast_S_S32x2048x1 (constant S_ .f32 0x44400000#32))) (broadcastInDim S32x2048x1 ![] bcast_S_S32x2048x1 (constant S_ .f32 0x358637BD#32)))))) (broadcastInDim S32x2048x768 ![0, 1, 2] bcast_S1x1x768_S32x2048x768_0_1_2 (broadcastInDim S1x1x768 ![2] bcast_S768_S1x1x768_2 a4))

/-- … followed by the recurrent columns. -/
def cat (v : FVec Ideal S32x2048x768 .f32) : FVec Ideal S32x2048x1024 .f32 :=
  concatenate S32x2048x1024 2 [⟨S32x2048x768, v⟩, ⟨S32x2048x256, (shapeCast S32x2048x256 (extf .f32 a1 bitsLt_bf16_f32) shapeCasts_S65536x256_S32x2048x256)⟩] concatenates_S32x2048x768_S32x2048x256_S32x2048x1024_d2

/-- The residual rows. -/
def res (v : FVec Ideal S32x2048x1024 .f32) : FVec Ideal S32x2048x1024 .f32 :=
  addf (mulf (broadcastInDim S32x2048x1024 ![] bcast_S_S32x2048x1024 (constant S_ .f32 0x3FD744FD#32)) (shapeCast S32x2048x1024 a2 shapeCasts_S65536x1024_S32x2048x1024)) (mulf (broadcastInDim S32x2048x1024 ![0, 1, 2] bcast_S32x1x1024_S32x2048x1024_0_1_2 (addf (broadcastInDim S32x1x1024 ![] bcast_S_S32x1x1024 (constant S_ .f32 0x3F800000#32)) (extractStridedSlice S32x1x1024 ![0, 2, 0] a3 slices_S32x6x1024_S32x1x1024_0_2_0))) (Host.dotGeneral dot_S32x2048x1024_S1024x1024_S32x2048x1024_2_0_01_1_n_n none v a5))

/-- Rows normalised. -/
def norm (v : FVec Ideal S32x2048x1024 .f32) : FVec Ideal S32x2048x1024 .f32 :=
  mulf (subf v (broadcastInDim S32x2048x1024 ![0, 1, 2] bcast_S32x2048x1_S32x2048x1024_0_1_2 (Host.divf (broadcastInDim S32x2048x1 ![0, 1] bcast_S32x2048_S32x2048x1_0_1 (Host.reduceAdd v (constant S_ .f32 0x00000000#32) reducesTo_S32x2048x1024_S32x2048_d2 h_S_)) (broadcastInDim S32x2048x1 ![] bcast_S_S32x2048x1 (constant S_ .f32 0x44800000#32))))) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (subf v (broadcastInDim S32x2048x1024 ![0, 1, 2] bcast_S32x2048x1_S32x2048x1024_0_1_2 (Host.divf (broadcastInDim S32x2048x1 ![0, 1] bcast_S32x2048_S32x2048x1_0_1 (Host.reduceAdd v (constant S_ .f32 0x00000000#32) reducesTo_S32x2048x1024_S32x2048_d2 h_S_)) (broadcastInDim S32x2048x1 ![] bcast_S_S32x2048x1 (constant S_ .f32 0x44800000#32))))) (subf v (broadcastInDim S32x2048x1024 ![0, 1, 2] bcast_S32x2048x1_S32x2048x1024_0_1_2 (Host.divf (broadcastInDim S32x2048x1 ![0, 1] bcast_S32x2048_S32x2048x1_0_1 (Host.reduceAdd v (constant S_ .f32 0x00000000#32) reducesTo_S32x2048x1024_S32x2048_d2 h_S_)) (broadcastInDim S32x2048x1 ![] bcast_S_S32x2048x1 (constant S_ .f32 0x44800000#32)))))) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x3727C5AC#32)))))

/-- The first result's rows. -/
def affine (v : FVec Ideal S32x2048x1024 .f32) : FVec Ideal S32x2048x1024 .f32 :=
  addf (mulf v (broadcastInDim S32x2048x1024 ![0, 1, 2] bcast_S1x1x1024_S32x2048x1024_0_1_2 (broadcastInDim S1x1x1024 ![2] bcast_S1024_S1x1x1024_2 a6))) (broadcastInDim S32x2048x1024 ![0, 1, 2] bcast_S1x1x1024_S32x2048x1024_0_1_2 (broadcastInDim S1x1x1024 ![2] bcast_S1024_S1x1x1024_2 a7))

/-- The second result's rows. -/
def modulate (v : FVec Ideal S32x2048x1024 .f32) : FVec Ideal S32x2048x1024 .f32 :=
  addf (mulf v (broadcastInDim S32x2048x1024 ![0, 1, 2] bcast_S32x1x1024_S32x2048x1024_0_1_2 (addf (broadcastInDim S32x1x1024 ![] bcast_S_S32x1x1024 (constant S_ .f32 0x3F800000#32)) (extractStridedSlice S32x1x1024 ![0, 4, 0] a3 slices_S32x6x1024_S32x1x1024_0_4_0)))) (broadcastInDim S32x2048x1024 ![0, 1, 2] bcast_S32x1x1024_S32x2048x1024_0_1_2 (extractStridedSlice S32x1x1024 ![0, 3, 0] a3 slices_S32x6x1024_S32x1x1024_0_3_0))

theorem attn_entry (b : Fin 32) (s : Fin 2048) (p : Fin 768) : attn a0 (ix3 b s p)
    = a0 (ix4 (n0 := 6) (n1 := 32) (n2 := 2048) (n3 := 128) ⟨p.val / 128, by omega⟩ b s ⟨p.val % 128, Nat.mod_lt _ (by decide)⟩) := by
  pointwise [attn]

theorem heads_entry (v : FVec Ideal S32x2048x768 .f32) (b : Fin 32) (s : Fin 2048) (p : Fin 768) : heads a4 v (ix3 b s p)
    = v (ix3 b s p) * Ideal.rsqrt (Ideal.div (∑ q : Fin 768, @HMul.hMul EReal EReal EReal _ (v (ix3 b s q)) (v (ix3 b s q))) (Ideal.ofBits .f32 0x44400000#32)
      + Ideal.ofBits .f32 0x358637BD#32) * a4 (ix1 p) := by
  pointwise [heads]

theorem cat_entry (v : FVec Ideal S32x2048x768 .f32) (b : Fin 32) (s : Fin 2048) (k : Fin 1024) : cat a1 v (ix3 b s k)
    = if h : k.val < 768 then v (ix3 b s ⟨k.val, h⟩) else a1 (ix2 (n0 := 65536) (n1 := 256) ⟨b.val * 2048 + s.val, by omega⟩ ⟨k.val - 768, by omega⟩) := by
  pointwise [cat]

theorem res_entry (v : FVec Ideal S32x2048x1024 .f32) (b : Fin 32) (s : Fin 2048) (n : Fin 1024) : res a2 a3 a5 v (ix3 b s n)
    = Ideal.ofBits .f32 0x3FD744FD#32 * a2 (ix2 (n0 := 65536) (n1 := 1024) ⟨b.val * 2048 + s.val, by omega⟩ n)
      + (1 + a3 (ix3 b 2 n)) * ∑ k : Fin 1024, @HMul.hMul EReal EReal EReal _ (v (ix3 b s k)) (a5 (ix2 k n)) := by
  pointwise [res]

theorem norm_entry (v : FVec Ideal S32x2048x1024 .f32) (b : Fin 32) (s : Fin 2048) (n : Fin 1024) : norm v (ix3 b s n) = normed (fun k => v (ix3 b s k)) n := by
  pointwise [norm, normed, centred]

theorem affine_entry (v : FVec Ideal S32x2048x1024 .f32) (b : Fin 32) (s : Fin 2048) (n : Fin 1024) : affine a6 a7 v (ix3 b s n) = v (ix3 b s n) * a6 (ix1 n) + a7 (ix1 n) := by
  pointwise [affine]

theorem modulate_entry (v : FVec Ideal S32x2048x1024 .f32) (b : Fin 32) (s : Fin 2048) (n : Fin 1024) : modulate a3 v (ix3 b s n)
    = v (ix3 b s n) * (1 + a3 (ix3 b 4 n)) + a3 (ix3 b 3 n) := by
  pointwise [modulate]

/-! ## Rows -/

theorem join (r : Fin 65536) (h) : (⟨r.val / 2048 * 2048 + r.val % 2048, h⟩ : Fin 65536) = r := Fin.ext (by show r.val / 2048 * 2048 + r.val % 2048 = r.val; omega)

theorem cat_row (r : Fin 65536) (k : Fin 1024) : cat a1 (heads a4 (attn a0)) (ix3 (n0 := 32) (n1 := 2048) (n2 := 1024) ⟨r.val / 2048, by omega⟩ ⟨r.val % 2048, Nat.mod_lt _ (by decide)⟩ k) = (rowAt a0 a1 a2 a3 a4 a5 a6 a7 r).cat k := by
  rw [cat_entry]
  unfold Row.cat
  by_cases h : k.val < 768
  · rw [dif_pos h, dif_pos h, heads_entry]
    simp only [attn_entry]
    rfl
  · rw [dif_neg h, dif_neg h]
    exact congrArg (fun R => a1 (ix2 (n0 := 65536) (n1 := 256) R _)) (join r _)

theorem res_row (r : Fin 65536) (n : Fin 1024) : res a2 a3 a5 (cat a1 (heads a4 (attn a0))) (ix3 (n0 := 32) (n1 := 2048) (n2 := 1024) ⟨r.val / 2048, by omega⟩ ⟨r.val % 2048, Nat.mod_lt _ (by decide)⟩ n) = (rowAt a0 a1 a2 a3 a4 a5 a6 a7 r).res n := by
  rw [res_entry]
  unfold Row.res
  simp only [cat_row a0 a1 a2 a3 a4 a5 a6 a7]
  exact congrArg (· + _) (congrArg (_ * ·) (congrArg (fun R => a2 (ix2 (n0 := 65536) (n1 := 1024) R _)) (join r _)))

theorem x1_row (r : Fin 65536) (n : Fin 1024) : affine a6 a7 (norm (res a2 a3 a5 (cat a1 (heads a4 (attn a0))))) (ix3 (n0 := 32) (n1 := 2048) (n2 := 1024) ⟨r.val / 2048, by omega⟩ ⟨r.val % 2048, Nat.mod_lt _ (by decide)⟩ n) = (rowAt a0 a1 a2 a3 a4 a5 a6 a7 r).x1 n := by
  rw [affine_entry, norm_entry]
  unfold Row.x1
  simp only [res_row a0 a1 a2 a3 a4 a5 a6 a7]
  rfl

theorem u2_row (r : Fin 65536) (n : Fin 1024) : modulate a3 (norm (affine a6 a7 (norm (res a2 a3 a5 (cat a1 (heads a4 (attn a0))))))) (ix3 (n0 := 32) (n1 := 2048) (n2 := 1024) ⟨r.val / 2048, by omega⟩ ⟨r.val % 2048, Nat.mod_lt _ (by decide)⟩ n) = (rowAt a0 a1 a2 a3 a4 a5 a6 a7 r).u2 n := by
  rw [modulate_entry, norm_entry]
  unfold Row.u2
  simp only [x1_row a0 a1 a2 a3 a4 a5 a6 a7]
  rfl

theorem rows_entry (v : FVec Ideal S32x2048x1024 .f32) (r : Fin 65536) (n : Fin 1024) :
    shapeCast S65536x1024 v shapeCasts_S32x2048x1024_S65536x1024 (ix2 r n) = v (ix3 (n0 := 32) (n1 := 2048) (n2 := 1024) ⟨r.val / 2048, by omega⟩ ⟨r.val % 2048, Nat.mod_lt _ (by decide)⟩ n) := by
  pointwise

theorem lines_entry (v : FVec Ideal S32x2048x1024 .f32) (r : Fin 524288) (n : Fin 128) :
    shapeCast S524288x128 v shapeCasts_S32x2048x1024_S524288x128 (ix2 r n) = v (ix3 (n0 := 32) (n1 := 2048) (n2 := 1024)
      ⟨r.val / 8 / 2048, by omega⟩ ⟨r.val / 8 % 2048, Nat.mod_lt _ (by decide)⟩ ⟨r.val % 8 * 128 + n.val, by omega⟩) := by
  pointwise
  exact congrArg (fun q => v (ix3 (n0 := 32) (n1 := 2048) (n2 := 1024) q _ _)) (Fin.ext (by show r.val / 16384 = r.val / 8 / 2048; omega))

/-! ## The run -/

variable (m : (ℓ : Loc nD τ sig) → Buf (Elt Ideal) ℓ) (ρ : Dev nD → PrngReg)

/-- The launch's row. -/
def launched (r : Fin 65536) : Row :=
  rowAt (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) (m (((0 : Dev nD).tc : Thread nD τ).loc main_arg7)) r

/-- The rows of the second result as lines of 128 entries, eight to a row. -/
def u2Lines (j : S524288x128.Idx) : EReal :=
  (launched m ⟨(j 0).val / 8, by have h : (j 0).val < 524288 := (j 0).isLt; omega⟩).u2
    ⟨(j 0).val % 8 * 128 + (j 1).val, by have h : (j 1).val < 128 := (j 1).isLt; omega⟩

theorem out0 : res_out0 m 0 = (fun j => (launched m (j 0)).x1 (j 1) : FVec Ideal S65536x1024 .f32) := by
  funext (j : S65536x1024.Idx)
  have j0 : (j 0).val < 65536 := (j 0).isLt
  have j1 : (j 1).val < 1024 := (j 1).isLt
  have hz : j = ix2 (n0 := 65536) (n1 := 1024) ⟨(j 0).val, j0⟩ ⟨(j 1).val, j1⟩ := funext fun a => by match a with | ⟨0, _⟩ => rfl | ⟨1, _⟩ => rfl
  refine (congrArg (res_out0 m 0) hz).trans ?_
  refine (rows_entry _ ⟨(j 0).val, j0⟩ ⟨(j 1).val, j1⟩).trans ?_
  exact x1_row (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) (m (((0 : Dev nD).tc : Thread nD τ).loc main_arg7)) ⟨(j 0).val, j0⟩ ⟨(j 1).val, j1⟩

theorem out1 : res_out1 m 0 = (u2Lines m : FVec Ideal S524288x128 .f32) := by
  funext (j : S524288x128.Idx)
  have j0 : (j 0).val < 524288 := (j 0).isLt
  have j1 : (j 1).val < 128 := (j 1).isLt
  have hz : j = ix2 (n0 := 524288) (n1 := 128) ⟨(j 0).val, j0⟩ ⟨(j 1).val, j1⟩ := funext fun a => by match a with | ⟨0, _⟩ => rfl | ⟨1, _⟩ => rfl
  refine (congrArg (res_out1 m 0) hz).trans ?_
  refine (lines_entry _ ⟨(j 0).val, j0⟩ ⟨(j 1).val, j1⟩).trans ?_
  exact u2_row (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) (m (((0 : Dev nD).tc : Thread nD τ).loc main_arg7)) ⟨(j 0).val / 8, by omega⟩ ⟨(j 0).val % 8 * 128 + (j 1).val, by omega⟩

end Cert.Reference4Ideal.Out
end
-- ==== Proof.OutClaims.lean ====
/- The claims about the output projection, one by one. -/
module

public import proofs.«01_k».proof.Defs
public import proofs.«01_k».proof.Proof.Gen.Kernel4
public import proofs.«01_k».proof.Proof.OutValue
public import proofs.«01_k».proof.Proof.OutReference
public import Idealize.ShloMosaic.Lib.Quiescent

@[expose] public section

noncomputable section

namespace Cert.Proof

open Idealize.ShloMosaic Idealize.ShloMosaic.TcCoe Idealize.SL.Sem

/-- On words a named constant is its own literal. -/
@[reducible] def literals : Named Bits := ⟨fun _ _ {φ} bits => FloatOps.ofBits φ bits⟩

set_option maxHeartbeats 1000000 in
set_option maxRecDepth 16384 in
/-- The output projection on words has the very body that the run was proved for, over any floats. -/
theorem body_eq4 : Cert.Kernel4.cc0_outproj_router (F := Bits) = (letI := literals; Cert.Kernel4Ideal.cc0_outproj_router (F := Bits)) := rfl

set_option maxHeartbeats 1000000 in
set_option maxRecDepth 16384 in
/-- So the one label of both programs runs one body. -/
theorem bodies_eq4 : Cert.Kernel4.defs₀ (F := Bits) = (letI := literals; Cert.Kernel4Ideal.defs₀ (F := Bits)) := by
  refine congrArg Defs.onTc (funext fun ℓ => funext fun a => ?_)
  match ℓ, a with
  | 0, (t, s) => rfl
  | ⟨n + 1, h⟩, _ => exact absurd h (Nat.not_lt.2 (Nat.le_add_left _ _))

/-- And both pipelines are one. -/
theorem defs_eq4 : Cert.Kernel4.defs (F := Bits) = (letI := literals; Cert.Kernel4Ideal.defs (F := Bits)) :=
  congrArg (Pipeline.defs Cert.Kernel4Ideal.pcfgs) bodies_eq4

set_option maxHeartbeats 1000000 in
set_option maxRecDepth 16384 in
/-- Both host codes are one. -/
theorem main_eq4 : Cert.Kernel4.main (F := Bits) = (letI := literals; Cert.Kernel4Ideal.main (F := Bits)) := rfl

/-- The output projection, on words and over the extended reals, and its reference: arguments and semaphores as they
    were. -/
theorem frame_kernel4 : Cert.quiescent_Kernel4 := fun m ρ _ => by
  have hr := letI := literals; Cert.Kernel4Ideal.Out.frame (F := Bits) m ρ
  rw [← defs_eq4, ← main_eq4] at hr
  exact hr

theorem frame_ideal4 : Cert.quiescent_Kernel4Ideal := fun m ρ _ => Cert.Kernel4Ideal.Out.frame m ρ

theorem frame_reference4 : Cert.quiescent_Reference4Ideal := fun m ρ _ =>
  (θ_run _ _ _).mono (fun r h => ⟨fun c => (h c).2.2, sem_eq_zero_of_no_sems rfl r.2⟩) (Cert.Reference4Ideal.Value.run m ρ)

/-- Over the extended reals the named constant is 1/768. -/
theorem preserves4 : Cert.preserves_Kernel4_Kernel4Ideal := IdealRules.named_const.statement _ _ _ _ _ rfl

/-- Its two arrays: the residual's norm, and the experts' modulated input. -/
theorem algebraic4 : Cert.algebraic_Kernel4Ideal_Reference4Ideal := fun m ρ m' ρ' _ hag => by
  have hl : Cert.Reference4Ideal.Out.launched m' = Cert.Kernel4Ideal.Out.launched m := by
    obtain ⟨e0, e1, e2, e3, e4, e5, e6, e7, -, -⟩ := hag 0
    unfold Cert.Reference4Ideal.Out.launched Cert.Kernel4Ideal.Out.launched
    rw [e0, e1, e2, e3, e4, e5, e6, e7]
  refine ⟨_, _, Cert.Kernel4Ideal.Out.run_value m ρ, (θ_run _ _ _).mono (fun r h c => ?_) (Cert.Reference4Ideal.Value.run m' ρ')⟩
  obtain rfl : c = 0 := Subsingleton.elim c 0
  refine ⟨(h 0).1.trans ((Cert.Reference4Ideal.Out.out0 m').trans ?_), (h 0).2.1.trans ((Cert.Reference4Ideal.Out.out1 m').trans ?_), (h 0).2.2⟩
  · rw [hl]
  · unfold Cert.Reference4Ideal.Out.u2Lines
    rw [hl]
    rfl

end Cert.Proof

end
-- ==== Proof.lean ====
/- The claims about four calls, the routed expert FFN, the input projection, the modulations and the output projection: the
   kernels' frames, the references', and that over the extended reals kernel and reference leave the same arrays. -/
module

public import proofs.«01_k».proof.Defs
public import proofs.«01_k».proof.Proof.Gen.Kernel
public import proofs.«01_k».proof.Proof.Gen.Pre_tables_in_range
public import proofs.«01_k».proof.Proof.Value
public import proofs.«01_k».proof.Proof.Reference
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.InValue
public import proofs.«01_k».proof.Proof.InReference
public import proofs.«01_k».proof.Proof.Mods
public import proofs.«01_k».proof.Proof.OutClaims
public import Idealize.ShloMosaic.Lib.Quiescent

@[expose] public section

noncomputable section

namespace Cert.Proof

open Idealize.ShloMosaic Idealize.ShloMosaic.TcCoe Idealize.SL.Sem Cert.KernelIdeal.Moe

set_option maxHeartbeats 1000000 in
set_option maxRecDepth 16384 in
/-- The kernel on words has the very body that the run was proved for, over any floats. -/
theorem body_eq : Cert.Kernel.cc0_moe_ffn (F := Bits) = Cert.KernelIdeal.cc0_moe_ffn (F := Bits) := rfl

set_option maxHeartbeats 1000000 in
set_option maxRecDepth 16384 in
/-- So the one label of both programs runs one body. -/
theorem bodies_eq : Cert.Kernel.defs₀ (F := Bits) = Cert.KernelIdeal.defs₀ (F := Bits) := by
  refine congrArg Defs.onTc (funext fun ℓ => funext fun a => ?_)
  match ℓ, a with
  | 0, (t, s) => rfl
  | ⟨n + 1, h⟩, _ => exact absurd h (Nat.not_lt.2 (Nat.le_add_left _ _))

/-- And both pipelines are one. -/
theorem defs_eq : Cert.Kernel.defs (F := Bits) = Cert.KernelIdeal.defs (F := Bits) :=
  congrArg (Pipeline.defs Cert.KernelIdeal.pcfgs) bodies_eq

/-- The precondition of the kernel on words is that of the kernel over any floats. -/
theorem pre_kernel (m) (h : Cert.Pre_Kernel m) : TablesOk (F := Bits) m := h

/-- On words the kernel leaves its arguments and its semaphores as they were. -/
theorem frame_kernel : Cert.quiescent_Kernel := fun m ρ h => by
  have hr := Cert.KernelIdeal.Moe.frame (F := Bits) m ρ (good_of_pre m (pre_kernel m h))
  rw [← defs_eq] at hr
  exact hr

/-- Over the extended reals the same. -/
theorem frame_ideal : Cert.quiescent_KernelIdeal := fun m ρ h =>
  Cert.KernelIdeal.Moe.frame (F := Ideal) m ρ (good_of_pre m h)

/-- The reference has no semaphore. -/
theorem frame_reference : Cert.quiescent_ReferenceIdeal := fun m ρ _ =>
  (θ_run _ _ _).mono (fun r h => ⟨fun c => (h c).2, sem_eq_zero_of_no_sems rfl r.2⟩) (Cert.ReferenceIdeal.Value.run m ρ)

/-- One array, from the kernel's blocks and from the reference's gated sum over every expert. -/
theorem algebraic : Cert.algebraic_KernelIdeal_ReferenceIdeal := fun m ρ m' ρ' hp hag => by
  refine ⟨fun _ j => kernelOut m (j 0) (j 1), run_value m ρ (good_of_pre m hp), ?_⟩
  refine (θ_run _ _ _).mono (fun r h c => ⟨(h c).1.trans ?_, (h c).2⟩) (Cert.ReferenceIdeal.Value.run m' ρ')
  obtain rfl : c = 0 := Subsingleton.elim c 0
  obtain ⟨e0, e1, e2, e3, e4, e5, e6, e7⟩ := hag 0
  have hw := fun n => words_of_pre (hp 0) n
  funext j
  have hj : j = ix2 (n0 := 2228224) (n1 := 128) (j 0) (j 1) := eq_ix2 j
  refine (congrArg (Cert.ReferenceIdeal.Value.res_out0 m' 0) hj).trans ?_
  refine (Cert.ReferenceIdeal.Moe.ref_moeOut m' 0 (j 0) (j 1) (fun n => ?_) (fun n => ?_)).trans ?_
  · rw [e0]; exact (hw n).1
  · rw [e1]; exact (hw n).2.1
  · rw [e0, e1, e2, e3, e4, e5, e6, e7]; rfl

/-- The input projection, on words and over the extended reals, and its reference: arguments and semaphores as they
    were. -/
theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run _ _ _).mono (fun r h => ⟨fun c => (h c).2.2.2.2, sem_eq_zero_of_no_sems rfl r.2⟩) (Cert.Reference2Ideal.InProj.run_value m ρ)

/-- Its four arrays: natural order, dealt by four, dealt by sixteen, and the recurrent columns. -/
theorem algebraic2 : Cert.algebraic_Kernel2Ideal_Reference2Ideal := fun m ρ m' ρ' _ hag => by
  have hl : Cert.Reference2Ideal.InProj.launched m' = Cert.Kernel2Ideal.InProj.launched m := by
    obtain ⟨e0, e1, e2⟩ := hag 0
    unfold Cert.Reference2Ideal.InProj.launched Cert.Kernel2Ideal.InProj.launched
    rw [e0, e1, e2]
  have hr := Cert.Reference2Ideal.InProj.run_value m' ρ'
  rw [hl] at hr
  exact ⟨_, _, _, _, Cert.Kernel2Ideal.InProj.run_value m ρ, hr⟩

/-- The modulations, on words and over the extended reals, and their reference: arguments and semaphores as they
    were. -/
theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run _ _ _).mono (fun r h => ⟨fun c => (h c).2, sem_eq_zero_of_no_sems rfl r.2⟩) (Cert.Reference3Ideal.Mods.run_value m ρ)

/-- Their one array. -/
theorem algebraic3 : Cert.algebraic_Kernel3Ideal_Reference3Ideal := fun m ρ m' ρ' _ hag => by
  refine ⟨fun _ j => Cert.Kernel3Ideal.Mods.launched m (j 0) (j 1) (j 2), (θ_run _ _ _).mono (fun r h c => ?_) (Cert.Kernel3Ideal.Value.run_blocks m ρ),
    (θ_run _ _ _).mono (fun r h c => ⟨(h c).1.trans ?_, (h c).2⟩) (Cert.Reference3Ideal.Mods.run_value m' ρ')⟩
  · obtain rfl : c = 0 := Subsingleton.elim c 0
    exact ⟨(h 0).1.trans (Cert.Kernel3Ideal.Mods.arr m), (h 0).2⟩
  · obtain rfl : c = 0 := Subsingleton.elim c 0
    obtain ⟨e0, e1, e2⟩ := hag 0
    rw [e0, e1, e2]
    rfl

/-- The twenty claims, with what the printed programs assume. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, Cert.Pre_tables_in_range.Gen.facts,
    frame_kernel, frame_ideal, frame_reference, fun m ρ _ => frame_reference m ρ trivial,
    frame_kernel2, frame_ideal2, frame_reference2, frame_kernel3, frame_ideal3, frame_reference3,
    frame_kernel4, frame_ideal4, frame_reference4,
    trivial, algebraic, trivial, algebraic2, trivial, algebraic3, preserves4, algebraic4⟩

end Cert.Proof

end
